-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_and_unbiased [hPre_uniform_and_unbiased : Cert.Pre_uniform_and_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_and_unbiased [hPre_uniform_and_unbiased : Cert.Pre_uniform_and_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_and_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_uniform_and_unbiased [hKernelIdeal : Cert.KernelIdeal.Facts] [hPre_uniform_and_unbiased : Cert.Pre_uniform_and_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_and_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_uniform_and_unbiased [hReferenceIdeal : Cert.ReferenceIdeal.Facts] [hPre_uniform_and_unbiased : Cert.Pre_uniform_and_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_and_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "g2" .f32 0x2EAAAAAB#32 ((1 / 12884901888 : ℝ) : EReal)
  ∧ IdealRules.named_const.Statement Cert.KernelIdeal.κ "g3" .f32 0x2A2AAAAB#32 ((1 / 6597069766656 : ℝ) : EReal)
  ∧ IdealRules.named_const.Statement Cert.KernelIdeal.κ "g4" .f32 0x25888889#32 ((1 / 4222124650659840 : ℝ) : EReal)
  ∧ IdealRules.named_const.Statement Cert.KernelIdeal.κ "g5" .f32 0x20DA740E#32 ((1 / 2702159776422297600 : ℝ) : EReal)

def algebraic_KernelIdeal_ReferenceIdeal_pre_uniform_and_unbiased [hKernelIdeal : Cert.KernelIdeal.Facts] [hReferenceIdeal : Cert.ReferenceIdeal.Facts] [hPre_uniform_and_unbiased : Cert.Pre_uniform_and_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_and_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_uniform_and_unbiased : Cert.Pre_uniform_and_unbiased.Facts),
    quiescent_Kernel (hKernel := hKernel)
    ∧ quiescent_KernelIdeal (hKernelIdeal := hKernelIdeal)
    ∧ quiescent_KernelIdeal_pre_uniform_and_unbiased (hKernelIdeal := hKernelIdeal) (hPre_uniform_and_unbiased := hPre_uniform_and_unbiased)
    ∧ quiescent_ReferenceIdeal (hReferenceIdeal := hReferenceIdeal)
    ∧ quiescent_ReferenceIdeal_pre_uniform_and_unbiased (hReferenceIdeal := hReferenceIdeal) (hPre_uniform_and_unbiased := hPre_uniform_and_unbiased)
    ∧ preserves_Kernel_KernelIdeal
    ∧ algebraic_KernelIdeal_ReferenceIdeal_pre_uniform_and_unbiased (hKernelIdeal := hKernelIdeal) (hReferenceIdeal := hReferenceIdeal) (hPre_uniform_and_unbiased := hPre_uniform_and_unbiased)
-- ==== Pre_uniform_and_unbiased.lean ====
abbrev S1024x1024 : Shape := ⟨2, ![1024, 1024]⟩
abbrev S32 : Shape := ⟨1, ![32]⟩
abbrev S1024 : Shape := ⟨1, ![1024]⟩
abbrev S31 : Shape := ⟨1, ![31]⟩
abbrev S_ : Shape := ⟨0, ![]⟩
abbrev S1 : Shape := ⟨1, ![1]⟩

class Facts : Prop where
  slices_S32_S31_1 : S32.Slices ![1] S31
  slices_S32_S31_0 : S32.Slices ![0] S31
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S32 : S_.BroadcastsInDim S32 (![] : Fin 0 → Fin S32.rank)
  reducesTo_S32_S_d0 : S32.ReducesTo [0] S_
  slices_S32_S1_1 : S32.Slices ![1] S1
  shapeCasts_S1_S_ : S1.ShapeCasts S_
  slices_S32_S1_0 : S32.Slices ![0] S1
  bcast_S_S31 : S_.BroadcastsInDim S31 (![] : Fin 0 → Fin S31.rank)
  reducesTo_S31_S_d0 : S31.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : FVec F S32 .f32) (main_arg3 : FVec F S1024 .f32) (main_v2 : FVec F S31 .f32) (main_v16 : IVec S_ 1) (main_v17 : FVec F S1 .f32) : IVec S_ 1 :=
  let main_v18 : FVec F S_ .f32 := shapeCast S_ main_v17 shapeCasts_S1_S_
  let main_v19 : FVec F S1 .f32 := (extractStridedSlice S1 ![0] · slices_S32_S1_0) main_arg1
  let main_v20 : FVec F S_ .f32 := shapeCast S_ main_v19 shapeCasts_S1_S_
  let main_v21 : FVec F S_ .f32 := subf main_v18 main_v20
  let main_v22 : FVec F S31 .f32 := broadcastInDim S31 ![] bcast_S_S31 main_v21
  let main_v23 : IVec S31 1 := cmpf .oeq main_v2 main_v22
  let main_c_4 : IVec S_ 1 := constantI S_ 1 1#1
  let main_v24 : IVec S_ 1 := (fun x v => Host.reduce IntOp.andi x v reducesTo_S31_S_d0 h_S_) main_v23 main_c_4
  let main_v25 : IVec S_ 1 := andi main_v16 main_v24
  let main_cst_5 : FVec F S_ .f32 := constant S_ .f32 0x00000000#32
  let main_v26 : FVec F S1024 .f32 := broadcastInDim S1024 ![] bcast_S_S1024 main_cst_5
  let main_v27 : IVec S1024 1 := cmpf .oeq main_arg3 main_v26
  let main_c_6 : IVec S_ 1 := constantI S_ 1 1#1
  let main_v28 : IVec S_ 1 := (fun x v => Host.reduce IntOp.andi x v reducesTo_S1024_S_d0 h_S_) main_v27 main_c_6
  let main_v29 : IVec S_ 1 := andi main_v25 main_v28
  main_v29

def fn {F : FTy → Type} [FloatOps F] (main_arg0 : FVec F S1024x1024 .f32) (main_arg1 : FVec F S32 .f32) (main_arg2 : FVec F S1024x1024 .f32) (main_arg3 : FVec F S1024 .f32) : IVec S_ 1 :=
  let main_v0 : FVec F S31 .f32 := (extractStridedSlice S31 ![1] · slices_S32_S31_1) main_arg1
  let main_v1 : FVec F S31 .f32 := (extractStridedSlice S31 ![0] · slices_S32_S31_0) main_arg1
  let main_v2 : FVec F S31 .f32 := subf main_v0 main_v1
  let main_v3 : FVec F S1024x1024 .f32 := subf main_arg0 main_arg0
  let main_cst : FVec F S_ .f32 := constant S_ .f32 0x00000000#32
  let main_v4 : FVec F S1024x1024 .f32 := broadcastInDim S1024x1024 ![] bcast_S_S1024x1024 main_cst
  let main_v5 : IVec S1024x1024 1 := cmpf .oeq main_v3 main_v4
  let main_c : IVec S_ 1 := constantI S_ 1 1#1
  let main_v6 : IVec S_ 1 := (fun x v => Host.reduce IntOp.andi x v reducesTo_S1024x1024_S_d0_1 h_S_) main_v5 main_c
  let main_v7 : FVec F S32 .f32 := subf main_arg1 main_arg1
  let main_cst_0 : FVec F S_ .f32 := constant S_ .f32 0x00000000#32
  let main_v8 : FVec F S32 .f32 := broadcastInDim S32 ![] bcast_S_S32 main_cst_0
  let main_v9 : IVec S32 1 := cmpf .oeq main_v7 main_v8
  let main_c_1 : IVec S_ 1 := constantI S_ 1 1#1
  let main_v10 : IVec S_ 1 := (fun x v => Host.reduce IntOp.andi x v reducesTo_S32_S_d0 h_S_) main_v9 main_c_1
  let main_v11 : IVec S_ 1 := andi main_v6 main_v10
  let main_v12 : FVec F S1024x1024 .f32 := subf main_arg2 main_arg2
  let main_cst_2 : FVec F S_ .f32 := constant S_ .f32 0x00000000#32
  let main_v13 : FVec F S1024x1024 .f32 := broadcastInDim S1024x1024 ![] bcast_S_S1024x1024 main_cst_2
  let main_v14 : IVec S1024x1024 1 := cmpf .oeq main_v12 main_v13
  let main_c_3 : IVec S_ 1 := constantI S_ 1 1#1
  let main_v15 : IVec S_ 1 := (fun x v => Host.reduce IntOp.andi x v reducesTo_S1024x1024_S_d0_1 h_S_) main_v14 main_c_3
  let main_v16 : IVec S_ 1 := andi main_v11 main_v15
  let main_v17 : FVec F S1 .f32 := (extractStridedSlice S1 ![1] · slices_S32_S1_1) main_arg1
  fn_part1 (F := F) main_arg1 main_arg3 main_v2 main_v16 main_v17
-- ==== Kernel.lean ====
abbrev S1024x1024 : Shape := ⟨2, ![1024, 1024]⟩
abbrev S32 : Shape := ⟨1, ![32]⟩
abbrev S1024 : Shape := ⟨1, ![1024]⟩
abbrev S1 : Shape := ⟨1, ![1]⟩
abbrev S_ : Shape := ⟨0, ![]⟩
abbrev S1x1 : Shape := ⟨2, ![1, 1]⟩
abbrev S32x1024x1024 : Shape := ⟨3, ![32, 1024, 1024]⟩
abbrev S1x1024x1024 : Shape := ⟨3, ![1, 1024, 1024]⟩
abbrev S256x1024 : Shape := ⟨2, ![256, 1024]⟩
abbrev S1x256x1024 : Shape := ⟨3, ![1, 256, 1024]⟩

abbrev nBuf : Space → Nat
  | .hbm => 14
  | .vmem => 7
  | .smem => 1
  | _ => 0

abbrev bufTy : (tb : Table) → Fin (tcTables nBuf tb) → BufTy
  | .hbm, ⟨0, _⟩ => ⟨S1024x1024, .f32⟩
  | .hbm, ⟨1, _⟩ => ⟨S32, .f32⟩
  | .hbm, ⟨2, _⟩ => ⟨S1024x1024, .f32⟩
  | .hbm, ⟨3, _⟩ => ⟨S1024, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1024x1024, .fp8e4m3⟩
  | .hbm, ⟨13, _⟩ => ⟨S32x1024x1024, .f32⟩
  | .local _ .vmem, ⟨0, _⟩ => ⟨S1024x1024, .f32⟩
  | .local _ .vmem, ⟨1, _⟩ => ⟨S1024x1024, .fp8e4m3⟩
  | .local _ .vmem, ⟨2, _⟩ => ⟨S1024x1024, .f32⟩
  | .local _ .vmem, ⟨3, _⟩ => ⟨S1024x1024, .fp8e4m3⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | .local _ .smem, ⟨0, _⟩ => ⟨S1x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0 : Ref sig .tc := ⟨.hbm, 13, rfl⟩
abbrev cc0_stg1_0 : Ref sig .tc := ⟨.vmem, 0, rfl⟩
abbrev cc0_stg2_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1024 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "g2" => some ((1 / 12884901888 : ℝ) : EReal)
  | "g3" => some ((1 / 6597069766656 : ℝ) : EReal)
  | "g4" => some ((1 / 4222124650659840 : ℝ) : EReal)
  | "g5" => some ((1 / 2702159776422297600 : ℝ) : EReal)
  | _ => none
-- ==== ReferenceIdeal.lean ====
abbrev S1024x1024 : Shape := ⟨2, ![1024, 1024]⟩
abbrev S32 : Shape := ⟨1, ![32]⟩
abbrev S1024 : Shape := ⟨1, ![1024]⟩
abbrev S31 : Shape := ⟨1, ![31]⟩
abbrev S_ : Shape := ⟨0, ![]⟩
abbrev S31x1024x1024 : Shape := ⟨3, ![31, 1024, 1024]⟩
abbrev S1 : Shape := ⟨1, ![1]⟩
abbrev S1x1024 : Shape := ⟨2, ![1, 1024]⟩
abbrev S1x1024x1024 : Shape := ⟨3, ![1, 1024, 1024]⟩
abbrev S32x1024x1024 : Shape := ⟨3, ![32, 1024, 1024]⟩

abbrev nBuf : Space → Nat
  | .hbm => 352
  | .vmem => 0
  | .smem => 0
  | _ => 0

abbrev hbmTy0_0 (i : Nat) : BufTy := match i % 128 with
  | 0 => ⟨S1024x1024, .f32⟩
  | 1 => ⟨S32, .f32⟩
  | 2 => ⟨S1024x1024, .f32⟩
  | 3 => ⟨S1024, .f32⟩
  | 4 => ⟨S31, .f32⟩
  | 5 => ⟨S31, .f32⟩
  | 6 => ⟨S31, .f32⟩
  | 7 => ⟨S_, .f32⟩
  | 8 => ⟨S31x1024x1024, .f32⟩
  | 9 => ⟨S_, .i32⟩
  | 10 => ⟨S31, .f32⟩
  | 11 => ⟨S1024x1024, .f32⟩
  | 12 => ⟨S1024, .f32⟩
  | 13 => ⟨S_, .i32⟩
  | 14 => ⟨S1024x1024, .f32⟩
  | 15 => ⟨S31x1024x1024, .f32⟩
  | 16 => ⟨S_, .i32⟩
  | 17 => ⟨S_, .i1⟩
  | 18 => ⟨S1, .f32⟩
  | 19 => ⟨S_, .f32⟩
  | 20 => ⟨S_, .f32⟩
  | 21 => ⟨S_, .f32⟩
  | 22 => ⟨S1024x1024, .f32⟩
  | 23 => ⟨S1024x1024, .f32⟩
  | 24 => ⟨S1x1024, .f32⟩
  | 25 => ⟨S1024x1024, .f32⟩
  | 26 => ⟨S1024x1024, .f32⟩
  | 27 => ⟨S_, .f32⟩
  | 28 => ⟨S_, .f32⟩
  | 29 => ⟨S_, .f32⟩
  | 30 => ⟨S_, .f32⟩
  | 31 => ⟨S1024x1024, .f32⟩
  | 32 => ⟨S1024x1024, .f32⟩
  | 33 => ⟨S1024x1024, .f32⟩
  | 34 => ⟨S1024x1024, .f32⟩
  | 35 => ⟨S1024x1024, .f32⟩
  | 36 => ⟨S1x1024, .f32⟩
  | 37 => ⟨S1024x1024, .f32⟩
  | 38 => ⟨S1024x1024, .f32⟩
  | 39 => ⟨S_, .f32⟩
  | 40 => ⟨S_, .f32⟩
  | 41 => ⟨S_, .f32⟩
  | 42 => ⟨S1024x1024, .f32⟩
  | 43 => ⟨S1024x1024, .f32⟩
  | 44 => ⟨S_, .f32⟩
  | 45 => ⟨S_, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1x1024, .f32⟩
  | 56 => ⟨S1024x1024, .f32⟩
  | 57 => ⟨S1024x1024, .f32⟩
  | 58 => ⟨S_, .f32⟩
  | 59 => ⟨S_, .f32⟩
  | 60 => ⟨S_, .f32⟩
  | 61 => ⟨S1024x1024, .f32⟩
  | 62 => ⟨S1024x1024, .f32⟩
  | 63 => ⟨S_, .f32⟩
  | 64 => ⟨S_, .f32⟩
  | 65 => ⟨S_, .f32⟩
  | 66 => ⟨S1024x1024, .f32⟩
  | 67 => ⟨S1024x1024, .f32⟩
  | 68 => ⟨S1024x1024, .f32⟩
  | 69 => ⟨S_, .f32⟩
  | 70 => ⟨S_, .f32⟩
  | 71 => ⟨S_, .f32⟩
  | 72 => ⟨S1024x1024, .f32⟩
  | 73 => ⟨S1024x1024, .f32⟩
  | 74 => ⟨S1024x1024, .f32⟩
  | 75 => ⟨S1024x1024, .f32⟩
  | 76 => ⟨S1024x1024, .f32⟩
  | 77 => ⟨S1024x1024, .f32⟩
  | 78 => ⟨S1024x1024, .f32⟩
  | 79 => ⟨S1024x1024, .f32⟩
  | 80 => ⟨S1x1024, .f32⟩
  | 81 => ⟨S1024x1024, .f32⟩
  | 82 => ⟨S1024x1024, .f32⟩
  | 83 => ⟨S_, .f32⟩
  | 84 => ⟨S_, .f32⟩
  | 85 => ⟨S_, .f32⟩
  | 86 => ⟨S1024x1024, .f32⟩
  | 87 => ⟨S1024x1024, .f32⟩
  | 88 => ⟨S_, .f32⟩
  | 89 => ⟨S_, .f32⟩
  | 90 => ⟨S_, .f32⟩
  | 91 => ⟨S1024x1024, .f32⟩
  | 92 => ⟨S1024x1024, .f32⟩
  | 93 => ⟨S1024x1024, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S1024x1024, .f32⟩
  | 100 => ⟨S_, .f32⟩
  | 101 => ⟨S_, .f32⟩
  | 102 => ⟨S_, .f32⟩
  | 103 => ⟨S1024x1024, .f32⟩
  | 104 => ⟨S1024x1024, .f32⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1x1024, .f32⟩
  | 112 => ⟨S1024x1024, .f32⟩
  | 113 => ⟨S1024x1024, .f32⟩
  | 114 => ⟨S_, .f32⟩
  | 115 => ⟨S_, .f32⟩
  | 116 => ⟨S_, .f32⟩
  | 117 => ⟨S1024x1024, .f32⟩
  | 118 => ⟨S1024x1024, .f32⟩
  | 119 => ⟨S_, .f32⟩
  | 120 => ⟨S_, .f32⟩
  | 121 => ⟨S_, .f32⟩
  | 122 => ⟨S1024x1024, .f32⟩
  | 123 => ⟨S1024x1024, .f32⟩
  | 124 => ⟨S1024x1024, .f32⟩
  | 125 => ⟨S_, .f32⟩
  | 126 => ⟨S_, .f32⟩
  | 127 => ⟨S_, .f32⟩
  | _ => ⟨S1024x1024, .f32⟩

abbrev hbmTy0_1 (i : Nat) : BufTy := match i % 128 with
  | 0 => ⟨S1024x1024, .f32⟩
  | 1 => ⟨S1024x1024, .f32⟩
  | 2 => ⟨S1024x1024, .f32⟩
  | 3 => ⟨S_, .f32⟩
  | 4 => ⟨S_, .f32⟩
  | 5 => ⟨S_, .f32⟩
  | 6 => ⟨S1024x1024, .f32⟩
  | 7 => ⟨S1024x1024, .f32⟩
  | 8 => ⟨S1024x1024, .f32⟩
  | 9 => ⟨S_, .f32⟩
  | 10 => ⟨S_, .f32⟩
  | 11 => ⟨S_, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S1x1024, .f32⟩
  | 21 => ⟨S1024x1024, .f32⟩
  | 22 => ⟨S1024x1024, .f32⟩
  | 23 => ⟨S_, .f32⟩
  | 24 => ⟨S_, .f32⟩
  | 25 => ⟨S_, .f32⟩
  | 26 => ⟨S1024x1024, .f32⟩
  | 27 => ⟨S1024x1024, .f32⟩
  | 28 => ⟨S_, .f32⟩
  | 29 => ⟨S_, .f32⟩
  | 30 => ⟨S_, .f32⟩
  | 31 => ⟨S1024x1024, .f32⟩
  | 32 => ⟨S1024x1024, .f32⟩
  | 33 => ⟨S1024x1024, .f32⟩
  | 34 => ⟨S_, .f32⟩
  | 35 => ⟨S_, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S_, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S_, .f32⟩
  | 48 => ⟨S_, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1x1024, .f32⟩
  | 58 => ⟨S1024x1024, .f32⟩
  | 59 => ⟨S1024x1024, .f32⟩
  | 60 => ⟨S_, .f32⟩
  | 61 => ⟨S_, .f32⟩
  | 62 => ⟨S_, .f32⟩
  | 63 => ⟨S_, .f32⟩
  | 64 => ⟨S1024x1024, .f32⟩
  | 65 => ⟨S1024x1024, .f32⟩
  | 66 => ⟨S1024x1024, .f32⟩
  | 67 => ⟨S1024x1024, .f32⟩
  | 68 => ⟨S1024x1024, .f32⟩
  | 69 => ⟨S1x1024, .f32⟩
  | 70 => ⟨S1024x1024, .f32⟩
  | 71 => ⟨S1024x1024, .f32⟩
  | 72 => ⟨S_, .f32⟩
  | 73 => ⟨S_, .f32⟩
  | 74 => ⟨S_, .f32⟩
  | 75 => ⟨S1024x1024, .f32⟩
  | 76 => ⟨S1024x1024, .f32⟩
  | 77 => ⟨S_, .f32⟩
  | 78 => ⟨S_, .f32⟩
  | 79 => ⟨S_, .f32⟩
  | 80 => ⟨S1024x1024, .f32⟩
  | 81 => ⟨S1024x1024, .f32⟩
  | 82 => ⟨S1024x1024, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1x1024, .f32⟩
  | 89 => ⟨S1024x1024, .f32⟩
  | 90 => ⟨S1024x1024, .f32⟩
  | 91 => ⟨S_, .f32⟩
  | 92 => ⟨S_, .f32⟩
  | 93 => ⟨S_, .f32⟩
  | 94 => ⟨S1024x1024, .f32⟩
  | 95 => ⟨S1024x1024, .f32⟩
  | 96 => ⟨S_, .f32⟩
  | 97 => ⟨S_, .f32⟩
  | 98 => ⟨S_, .f32⟩
  | 99 => ⟨S1024x1024, .f32⟩
  | 100 => ⟨S1024x1024, .f32⟩
  | 101 => ⟨S1024x1024, .f32⟩
  | 102 => ⟨S_, .f32⟩
  | 103 => ⟨S_, .f32⟩
  | 104 => ⟨S_, .f32⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S1x1024, .f32⟩
  | 114 => ⟨S1024x1024, .f32⟩
  | 115 => ⟨S1024x1024, .f32⟩
  | 116 => ⟨S_, .f32⟩
  | 117 => ⟨S_, .f32⟩
  | 118 => ⟨S_, .f32⟩
  | 119 => ⟨S1024x1024, .f32⟩
  | 120 => ⟨S1024x1024, .f32⟩
  | 121 => ⟨S_, .f32⟩
  | 122 => ⟨S_, .f32⟩
  | 123 => ⟨S_, .f32⟩
  | 124 => ⟨S1024x1024, .f32⟩
  | 125 => ⟨S1024x1024, .f32⟩
  | 126 => ⟨S1024x1024, .f32⟩
  | 127 => ⟨S_, .f32⟩
  | _ => ⟨S1024x1024, .f32⟩

abbrev hbmTy0_2 (i : Nat) : BufTy := match i % 128 with
  | 0 => ⟨S_, .f32⟩
  | 1 => ⟨S_, .f32⟩
  | 2 => ⟨S1024x1024, .f32⟩
  | 3 => ⟨S1024x1024, .f32⟩
  | 4 => ⟨S1024x1024, .f32⟩
  | 5 => ⟨S_, .f32⟩
  | 6 => ⟨S_, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S1x1024, .f32⟩
  | 17 => ⟨S1024x1024, .f32⟩
  | 18 => ⟨S1024x1024, .f32⟩
  | 19 => ⟨S_, .f32⟩
  | 20 => ⟨S_, .f32⟩
  | 21 => ⟨S_, .f32⟩
  | 22 => ⟨S1024x1024, .f32⟩
  | 23 => ⟨S1024x1024, .f32⟩
  | 24 => ⟨S_, .f32⟩
  | 25 => ⟨S_, .f32⟩
  | 26 => ⟨S_, .f32⟩
  | 27 => ⟨S1024x1024, .f32⟩
  | 28 => ⟨S1024x1024, .f32⟩
  | 29 => ⟨S1024x1024, .f32⟩
  | 30 => ⟨S_, .f32⟩
  | 31 => ⟨S_, .f32⟩
  | 32 => ⟨S_, .f32⟩
  | 33 => ⟨S1024x1024, .f32⟩
  | 34 => ⟨S1024x1024, .f32⟩
  | 35 => ⟨S1024x1024, .f32⟩
  | 36 => ⟨S_, .f32⟩
  | 37 => ⟨S_, .f32⟩
  | 38 => ⟨S_, .f32⟩
  | 39 => ⟨S1024x1024, .f32⟩
  | 40 => ⟨S1024x1024, .f32⟩
  | 41 => ⟨S1024x1024, .f32⟩
  | 42 => ⟨S_, .f32⟩
  | 43 => ⟨S_, .f32⟩
  | 44 => ⟨S_, .f32⟩
  | 45 => ⟨S1024x1024, .f32⟩
  | 46 => ⟨S1024x1024, .f32⟩
  | 47 => ⟨S1024x1024, .f32⟩
  | 48 => ⟨S1024x1024, .f32⟩
  | 49 => ⟨S1024x1024, .f32⟩
  | 50 => ⟨S1024x1024, .f32⟩
  | 51 => ⟨S1024x1024, .f32⟩
  | 52 => ⟨S1024x1024, .f32⟩
  | 53 => ⟨S1x1024, .f32⟩
  | 54 => ⟨S1024x1024, .f32⟩
  | 55 => ⟨S1024x1024, .f32⟩
  | 56 => ⟨S_, .f32⟩
  | 57 => ⟨S_, .f32⟩
  | 58 => ⟨S_, .f32⟩
  | 59 => ⟨S1024x1024, .f32⟩
  | 60 => ⟨S1024x1024, .f32⟩
  | 61 => ⟨S_, .f32⟩
  | 62 => ⟨S_, .f32⟩
  | 63 => ⟨S_, .f32⟩
  | 64 => ⟨S1024x1024, .f32⟩
  | 65 => ⟨S1024x1024, .f32⟩
  | 66 => ⟨S1024x1024, .f32⟩
  | 67 => ⟨S_, .f32⟩
  | 68 => ⟨S_, .f32⟩
  | 69 => ⟨S_, .f32⟩
  | 70 => ⟨S1024x1024, .f32⟩
  | 71 => ⟨S1024x1024, .f32⟩
  | 72 => ⟨S1024x1024, .f32⟩
  | 73 => ⟨S_, .f32⟩
  | 74 => ⟨S_, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S_, .f32⟩
  | 81 => ⟨S_, .f32⟩
  | 82 => ⟨S1024x1024, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1x1024x1024, .f32⟩
  | 89 => ⟨S_, .i32⟩
  | 90 => ⟨S_, .i32⟩
  | 91 => ⟨S31x1024x1024, .f32⟩
  | 92 => ⟨S_, .i32⟩
  | 93 => ⟨S_, .i32⟩
  | 94 => ⟨S1x1024x1024, .f32⟩
  | 95 => ⟨S32x1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_while0c_c_5 : Ref sig .tc := ⟨.hbm, 16, rfl⟩
abbrev main_while0c_v7 : Ref sig .tc := ⟨.hbm, 17, rfl⟩
abbrev main_while0b_call0_v0 : Ref sig .tc := ⟨.hbm, 18, rfl⟩
abbrev main_while0b_v7 : Ref sig .tc := ⟨.hbm, 19, rfl⟩
abbrev main_while0b_cst_5 : Ref sig .tc := ⟨.hbm, 20, rfl⟩
abbrev main_while0b_v8 : Ref sig .tc := ⟨.hbm, 21, rfl⟩
abbrev main_while0b_v9 : Ref sig .tc := ⟨.hbm, 22, rfl⟩
abbrev main_while0b_v10 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_cst_6 : Ref sig .tc := ⟨.hbm, 27, rfl⟩
abbrev main_while0b_cst_7 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_v17 : Ref sig .tc := ⟨.hbm, 32, rfl⟩
abbrev main_while0b_v18 : Ref sig .tc := ⟨.hbm, 33, rfl⟩
abbrev main_while0b_v19 : Ref sig .tc := ⟨.hbm, 34, rfl⟩
abbrev main_while0b_v20 : Ref sig .tc := ⟨.hbm, 35, rfl⟩
abbrev main_while0b_v21 : Ref sig .tc := ⟨.hbm, 36, rfl⟩
abbrev main_while0b_v22 : Ref sig .tc := ⟨.hbm, 37, rfl⟩
abbrev main_while0b_v23 : Ref sig .tc := ⟨.hbm, 38, rfl⟩
abbrev main_while0b_cst_8 : Ref sig .tc := ⟨.hbm, 39, rfl⟩
abbrev main_while0b_cst_9 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_cst_10 : Ref sig .tc := ⟨.hbm, 44, rfl⟩
abbrev main_while0b_cst_11 : Ref sig .tc := ⟨.hbm, 45, rfl⟩
abbrev main_while0b_v27 : Ref sig .tc := ⟨.hbm, 46, rfl⟩
abbrev main_while0b_v28 : Ref sig .tc := ⟨.hbm, 47, rfl⟩
abbrev main_while0b_v29 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_cst_12 : Ref sig .tc := ⟨.hbm, 58, rfl⟩
abbrev main_while0b_cst_13 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_cst_14 : Ref sig .tc := ⟨.hbm, 63, rfl⟩
abbrev main_while0b_cst_15 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_cst_16 : Ref sig .tc := ⟨.hbm, 69, rfl⟩
abbrev main_while0b_cst_17 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_cst_18 : Ref sig .tc := ⟨.hbm, 83, rfl⟩
abbrev main_while0b_cst_19 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_cst_20 : Ref sig .tc := ⟨.hbm, 88, rfl⟩
abbrev main_while0b_cst_21 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_cst_22 : Ref sig .tc := ⟨.hbm, 94, rfl⟩
abbrev main_while0b_cst_23 : Ref sig .tc := ⟨.hbm, 95, rfl⟩
abbrev main_while0b_v65 : Ref sig .tc := ⟨.hbm, 96, rfl⟩
abbrev main_while0b_v66 : Ref sig .tc := ⟨.hbm, 97, rfl⟩
abbrev main_while0b_v67 : Ref sig .tc := ⟨.hbm, 98, rfl⟩
abbrev main_while0b_v68 : Ref sig .tc := ⟨.hbm, 99, rfl⟩
abbrev main_while0b_cst_24 : Ref sig .tc := ⟨.hbm, 100, rfl⟩
abbrev main_while0b_cst_25 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_cst_26 : Ref sig .tc := ⟨.hbm, 114, rfl⟩
abbrev main_while0b_cst_27 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_cst_28 : Ref sig .tc := ⟨.hbm, 119, rfl⟩
abbrev main_while0b_cst_29 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_cst_30 : Ref sig .tc := ⟨.hbm, 125, rfl⟩
abbrev main_while0b_cst_31 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_cst_32 : Ref sig .tc := ⟨.hbm, 131, rfl⟩
abbrev main_while0b_cst_33 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_cst_34 : Ref sig .tc := ⟨.hbm, 137, rfl⟩
abbrev main_while0b_cst_35 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_v103 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_cst_36 : Ref sig .tc := ⟨.hbm, 151, rfl⟩
abbrev main_while0b_cst_37 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_cst_38 : Ref sig .tc := ⟨.hbm, 156, rfl⟩
abbrev main_while0b_cst_39 : Ref sig .tc := ⟨.hbm, 157, rfl⟩
abbrev main_while0b_v111 : Ref sig .tc := ⟨.hbm, 158, rfl⟩
abbrev main_while0b_v112 : Ref sig .tc := ⟨.hbm, 159, rfl⟩
abbrev main_while0b_v113 : Ref sig .tc := ⟨.hbm, 160, rfl⟩
abbrev main_while0b_v114 : Ref sig .tc := ⟨.hbm, 161, rfl⟩
abbrev main_while0b_cst_40 : Ref sig .tc := ⟨.hbm, 162, rfl⟩
abbrev main_while0b_cst_41 : Ref sig .tc := ⟨.hbm, 163, rfl⟩
abbrev main_while0b_v115 : Ref sig .tc := ⟨.hbm, 164, rfl⟩
abbrev main_while0b_v116 : Ref sig .tc := ⟨.hbm, 165, rfl⟩
abbrev main_while0b_v117 : Ref sig .tc := ⟨.hbm, 166, rfl⟩
abbrev main_while0b_v118 : Ref sig .tc := ⟨.hbm, 167, rfl⟩
abbrev main_while0b_cst_42 : Ref sig .tc := ⟨.hbm, 168, rfl⟩
abbrev main_while0b_cst_43 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_cst_44 : Ref sig .tc := ⟨.hbm, 174, rfl⟩
abbrev main_while0b_cst_45 : Ref sig .tc := ⟨.hbm, 175, rfl⟩
abbrev main_while0b_v123 : Ref sig .tc := ⟨.hbm, 176, rfl⟩
abbrev main_while0b_v124 : Ref sig .tc := ⟨.hbm, 177, rfl⟩
abbrev main_while0b_v125 : Ref sig .tc := ⟨.hbm, 178, rfl⟩
abbrev main_while0b_v126 : Ref sig .tc := ⟨.hbm, 179, rfl⟩
abbrev main_while0b_v127 : Ref sig .tc := ⟨.hbm, 180, rfl⟩
abbrev main_while0b_v128 : Ref sig .tc := ⟨.hbm, 181, rfl⟩
abbrev main_while0b_v129 : Ref sig .tc := ⟨.hbm, 182, rfl⟩
abbrev main_while0b_v130 : Ref sig .tc := ⟨.hbm, 183, rfl⟩
abbrev main_while0b_v131 : Ref sig .tc := ⟨.hbm, 184, rfl⟩
abbrev main_while0b_v132 : Ref sig .tc := ⟨.hbm, 185, rfl⟩
abbrev main_while0b_v133 : Ref sig .tc := ⟨.hbm, 186, rfl⟩
abbrev main_while0b_v134 : Ref sig .tc := ⟨.hbm, 187, rfl⟩
abbrev main_while0b_cst_46 : Ref sig .tc := ⟨.hbm, 188, rfl⟩
abbrev main_while0b_cst_47 : Ref sig .tc := ⟨.hbm, 189, rfl⟩
abbrev main_while0b_v135 : Ref sig .tc := ⟨.hbm, 190, rfl⟩
abbrev main_while0b_v136 : Ref sig .tc := ⟨.hbm, 191, rfl⟩
abbrev main_while0b_v137 : Ref sig .tc := ⟨.hbm, 192, rfl⟩
abbrev main_while0b_v138 : Ref sig .tc := ⟨.hbm, 193, rfl⟩
abbrev main_while0b_v139 : Ref sig .tc := ⟨.hbm, 194, rfl⟩
abbrev main_while0b_v140 : Ref sig .tc := ⟨.hbm, 195, rfl⟩
abbrev main_while0b_v141 : Ref sig .tc := ⟨.hbm, 196, rfl⟩
abbrev main_while0b_v142 : Ref sig .tc := ⟨.hbm, 197, rfl⟩
abbrev main_while0b_v143 : Ref sig .tc := ⟨.hbm, 198, rfl⟩
abbrev main_while0b_v144 : Ref sig .tc := ⟨.hbm, 199, rfl⟩
abbrev main_while0b_cst_48 : Ref sig .tc := ⟨.hbm, 200, rfl⟩
abbrev main_while0b_cst_49 : Ref sig .tc := ⟨.hbm, 201, rfl⟩
abbrev main_while0b_v145 : Ref sig .tc := ⟨.hbm, 202, rfl⟩
abbrev main_while0b_v146 : Ref sig .tc := ⟨.hbm, 203, rfl⟩
abbrev main_while0b_v147 : Ref sig .tc := ⟨.hbm, 204, rfl⟩
abbrev main_while0b_cst_50 : Ref sig .tc := ⟨.hbm, 205, rfl⟩
abbrev main_while0b_cst_51 : Ref sig .tc := ⟨.hbm, 206, rfl⟩
abbrev main_while0b_v148 : Ref sig .tc := ⟨.hbm, 207, rfl⟩
abbrev main_while0b_v149 : Ref sig .tc := ⟨.hbm, 208, rfl⟩
abbrev main_while0b_v150 : Ref sig .tc := ⟨.hbm, 209, rfl⟩
abbrev main_while0b_v151 : Ref sig .tc := ⟨.hbm, 210, rfl⟩
abbrev main_while0b_v152 : Ref sig .tc := ⟨.hbm, 211, rfl⟩
abbrev main_while0b_v153 : Ref sig .tc := ⟨.hbm, 212, rfl⟩
abbrev main_while0b_v154 : Ref sig .tc := ⟨.hbm, 213, rfl⟩
abbrev main_while0b_v155 : Ref sig .tc := ⟨.hbm, 214, rfl⟩
abbrev main_while0b_v156 : Ref sig .tc := ⟨.hbm, 215, rfl⟩
abbrev main_while0b_v157 : Ref sig .tc := ⟨.hbm, 216, rfl⟩
abbrev main_while0b_v158 : Ref sig .tc := ⟨.hbm, 217, rfl⟩
abbrev main_while0b_v159 : Ref sig .tc := ⟨.hbm, 218, rfl⟩
abbrev main_while0b_cst_52 : Ref sig .tc := ⟨.hbm, 219, rfl⟩
abbrev main_while0b_cst_53 : Ref sig .tc := ⟨.hbm, 220, rfl⟩
abbrev main_while0b_v160 : Ref sig .tc := ⟨.hbm, 221, rfl⟩
abbrev main_while0b_v161 : Ref sig .tc := ⟨.hbm, 222, rfl⟩
abbrev main_while0b_v162 : Ref sig .tc := ⟨.hbm, 223, rfl⟩
abbrev main_while0b_cst_54 : Ref sig .tc := ⟨.hbm, 224, rfl⟩
abbrev main_while0b_cst_55 : Ref sig .tc := ⟨.hbm, 225, rfl⟩
abbrev main_while0b_v163 : Ref sig .tc := ⟨.hbm, 226, rfl⟩
abbrev main_while0b_v164 : Ref sig .tc := ⟨.hbm, 227, rfl⟩
abbrev main_while0b_v165 : Ref sig .tc := ⟨.hbm, 228, rfl⟩
abbrev main_while0b_v166 : Ref sig .tc := ⟨.hbm, 229, rfl⟩
abbrev main_while0b_cst_56 : Ref sig .tc := ⟨.hbm, 230, rfl⟩
abbrev main_while0b_cst_57 : Ref sig .tc := ⟨.hbm, 231, rfl⟩
abbrev main_while0b_v167 : Ref sig .tc := ⟨.hbm, 232, rfl⟩
abbrev main_while0b_v168 : Ref sig .tc := ⟨.hbm, 233, rfl⟩
abbrev main_while0b_v169 : Ref sig .tc := ⟨.hbm, 234, rfl⟩
abbrev main_while0b_v170 : Ref sig .tc := ⟨.hbm, 235, rfl⟩
abbrev main_while0b_v171 : Ref sig .tc := ⟨.hbm, 236, rfl⟩
abbrev main_while0b_v172 : Ref sig .tc := ⟨.hbm, 237, rfl⟩
abbrev main_while0b_v173 : Ref sig .tc := ⟨.hbm, 238, rfl⟩
abbrev main_while0b_v174 : Ref sig .tc := ⟨.hbm, 239, rfl⟩
abbrev main_while0b_v175 : Ref sig .tc := ⟨.hbm, 240, rfl⟩
abbrev main_while0b_v176 : Ref sig .tc := ⟨.hbm, 241, rfl⟩
abbrev main_while0b_v177 : Ref sig .tc := ⟨.hbm, 242, rfl⟩
abbrev main_while0b_v178 : Ref sig .tc := ⟨.hbm, 243, rfl⟩
abbrev main_while0b_cst_58 : Ref sig .tc := ⟨.hbm, 244, rfl⟩
abbrev main_while0b_cst_59 : Ref sig .tc := ⟨.hbm, 245, rfl⟩
abbrev main_while0b_v179 : Ref sig .tc := ⟨.hbm, 246, rfl⟩
abbrev main_while0b_v180 : Ref sig .tc := ⟨.hbm, 247, rfl⟩
abbrev main_while0b_v181 : Ref sig .tc := ⟨.hbm, 248, rfl⟩
abbrev main_while0b_cst_60 : Ref sig .tc := ⟨.hbm, 249, rfl⟩
abbrev main_while0b_cst_61 : Ref sig .tc := ⟨.hbm, 250, rfl⟩
abbrev main_while0b_v182 : Ref sig .tc := ⟨.hbm, 251, rfl⟩
abbrev main_while0b_v183 : Ref sig .tc := ⟨.hbm, 252, rfl⟩
abbrev main_while0b_v184 : Ref sig .tc := ⟨.hbm, 253, rfl⟩
abbrev main_while0b_v185 : Ref sig .tc := ⟨.hbm, 254, rfl⟩
abbrev main_while0b_cst_62 : Ref sig .tc := ⟨.hbm, 255, rfl⟩
abbrev main_while0b_cst_63 : Ref sig .tc := ⟨.hbm, 256, rfl⟩
abbrev main_while0b_v186 : Ref sig .tc := ⟨.hbm, 257, rfl⟩
abbrev main_while0b_v187 : Ref sig .tc := ⟨.hbm, 258, rfl⟩
abbrev main_while0b_v188 : Ref sig .tc := ⟨.hbm, 259, rfl⟩
abbrev main_while0b_v189 : Ref sig .tc := ⟨.hbm, 260, rfl⟩
abbrev main_while0b_cst_64 : Ref sig .tc := ⟨.hbm, 261, rfl⟩
abbrev main_while0b_cst_65 : Ref sig .tc := ⟨.hbm, 262, rfl⟩
abbrev main_while0b_v190 : Ref sig .tc := ⟨.hbm, 263, rfl⟩
abbrev main_while0b_v191 : Ref sig .tc := ⟨.hbm, 264, rfl⟩
abbrev main_while0b_v192 : Ref sig .tc := ⟨.hbm, 265, rfl⟩
abbrev main_while0b_v193 : Ref sig .tc := ⟨.hbm, 266, rfl⟩
abbrev main_while0b_v194 : Ref sig .tc := ⟨.hbm, 267, rfl⟩
abbrev main_while0b_v195 : Ref sig .tc := ⟨.hbm, 268, rfl⟩
abbrev main_while0b_v196 : Ref sig .tc := ⟨.hbm, 269, rfl⟩
abbrev main_while0b_v197 : Ref sig .tc := ⟨.hbm, 270, rfl⟩
abbrev main_while0b_v198 : Ref sig .tc := ⟨.hbm, 271, rfl⟩
abbrev main_while0b_v199 : Ref sig .tc := ⟨.hbm, 272, rfl⟩
abbrev main_while0b_v200 : Ref sig .tc := ⟨.hbm, 273, rfl⟩
abbrev main_while0b_v201 : Ref sig .tc := ⟨.hbm, 274, rfl⟩
abbrev main_while0b_cst_66 : Ref sig .tc := ⟨.hbm, 275, rfl⟩
abbrev main_while0b_cst_67 : Ref sig .tc := ⟨.hbm, 276, rfl⟩
abbrev main_while0b_v202 : Ref sig .tc := ⟨.hbm, 277, rfl⟩
abbrev main_while0b_v203 : Ref sig .tc := ⟨.hbm, 278, rfl⟩
abbrev main_while0b_v204 : Ref sig .tc := ⟨.hbm, 279, rfl⟩
abbrev main_while0b_cst_68 : Ref sig .tc := ⟨.hbm, 280, rfl⟩
abbrev main_while0b_cst_69 : Ref sig .tc := ⟨.hbm, 281, rfl⟩
abbrev main_while0b_v205 : Ref sig .tc := ⟨.hbm, 282, rfl⟩
abbrev main_while0b_v206 : Ref sig .tc := ⟨.hbm, 283, rfl⟩
abbrev main_while0b_v207 : Ref sig .tc := ⟨.hbm, 284, rfl⟩
abbrev main_while0b_v208 : Ref sig .tc := ⟨.hbm, 285, rfl⟩
abbrev main_while0b_cst_70 : Ref sig .tc := ⟨.hbm, 286, rfl⟩
abbrev main_while0b_cst_71 : Ref sig .tc := ⟨.hbm, 287, rfl⟩
abbrev main_while0b_v209 : Ref sig .tc := ⟨.hbm, 288, rfl⟩
abbrev main_while0b_v210 : Ref sig .tc := ⟨.hbm, 289, rfl⟩
abbrev main_while0b_v211 : Ref sig .tc := ⟨.hbm, 290, rfl⟩
abbrev main_while0b_v212 : Ref sig .tc := ⟨.hbm, 291, rfl⟩
abbrev main_while0b_cst_72 : Ref sig .tc := ⟨.hbm, 292, rfl⟩
abbrev main_while0b_cst_73 : Ref sig .tc := ⟨.hbm, 293, rfl⟩
abbrev main_while0b_v213 : Ref sig .tc := ⟨.hbm, 294, rfl⟩
abbrev main_while0b_v214 : Ref sig .tc := ⟨.hbm, 295, rfl⟩
abbrev main_while0b_v215 : Ref sig .tc := ⟨.hbm, 296, rfl⟩
abbrev main_while0b_v216 : Ref sig .tc := ⟨.hbm, 297, rfl⟩
abbrev main_while0b_cst_74 : Ref sig .tc := ⟨.hbm, 298, rfl⟩
abbrev main_while0b_cst_75 : Ref sig .tc := ⟨.hbm, 299, rfl⟩
abbrev main_while0b_v217 : Ref sig .tc := ⟨.hbm, 300, rfl⟩
abbrev main_while0b_v218 : Ref sig .tc := ⟨.hbm, 301, rfl⟩
abbrev main_while0b_v219 : Ref sig .tc := ⟨.hbm, 302, rfl⟩
abbrev main_while0b_v220 : Ref sig .tc := ⟨.hbm, 303, rfl⟩
abbrev main_while0b_v221 : Ref sig .tc := ⟨.hbm, 304, rfl⟩
abbrev main_while0b_v222 : Ref sig .tc := ⟨.hbm, 305, rfl⟩
abbrev main_while0b_v223 : Ref sig .tc := ⟨.hbm, 306, rfl⟩
abbrev main_while0b_v224 : Ref sig .tc := ⟨.hbm, 307, rfl⟩
abbrev main_while0b_v225 : Ref sig .tc := ⟨.hbm, 308, rfl⟩
abbrev main_while0b_v226 : Ref sig .tc := ⟨.hbm, 309, rfl⟩
abbrev main_while0b_v227 : Ref sig .tc := ⟨.hbm, 310, rfl⟩
abbrev main_while0b_v228 : Ref sig .tc := ⟨.hbm, 311, rfl⟩
abbrev main_while0b_cst_76 : Ref sig .tc := ⟨.hbm, 312, rfl⟩
abbrev main_while0b_cst_77 : Ref sig .tc := ⟨.hbm, 313, rfl⟩
abbrev main_while0b_v229 : Ref sig .tc := ⟨.hbm, 314, rfl⟩
abbrev main_while0b_v230 : Ref sig .tc := ⟨.hbm, 315, rfl⟩
abbrev main_while0b_v231 : Ref sig .tc := ⟨.hbm, 316, rfl⟩
abbrev main_while0b_cst_78 : Ref sig .tc := ⟨.hbm, 317, rfl⟩
abbrev main_while0b_cst_79 : Ref sig .tc := ⟨.hbm, 318, rfl⟩
abbrev main_while0b_v232 : Ref sig .tc := ⟨.hbm, 319, rfl⟩
abbrev main_while0b_v233 : Ref sig .tc := ⟨.hbm, 320, rfl⟩
abbrev main_while0b_v234 : Ref sig .tc := ⟨.hbm, 321, rfl⟩
abbrev main_while0b_v235 : Ref sig .tc := ⟨.hbm, 322, rfl⟩
abbrev main_while0b_cst_80 : Ref sig .tc := ⟨.hbm, 323, rfl⟩
abbrev main_while0b_cst_81 : Ref sig .tc := ⟨.hbm, 324, rfl⟩
abbrev main_while0b_v236 : Ref sig .tc := ⟨.hbm, 325, rfl⟩
abbrev main_while0b_v237 : Ref sig .tc := ⟨.hbm, 326, rfl⟩
abbrev main_while0b_v238 : Ref sig .tc := ⟨.hbm, 327, rfl⟩
abbrev main_while0b_v239 : Ref sig .tc := ⟨.hbm, 328, rfl⟩
abbrev main_while0b_cst_82 : Ref sig .tc := ⟨.hbm, 329, rfl⟩
abbrev main_while0b_cst_83 : Ref sig .tc := ⟨.hbm, 330, rfl⟩
abbrev main_while0b_v240 : Ref sig .tc := ⟨.hbm, 331, rfl⟩
abbrev main_while0b_v241 : Ref sig .tc := ⟨.hbm, 332, rfl⟩
abbrev main_while0b_v242 : Ref sig .tc := ⟨.hbm, 333, rfl⟩
abbrev main_while0b_v243 : Ref sig .tc := ⟨.hbm, 334, rfl⟩
abbrev main_while0b_cst_84 : Ref sig .tc := ⟨.hbm, 335, rfl⟩
abbrev main_while0b_cst_85 : Ref sig .tc := ⟨.hbm, 336, rfl⟩
abbrev main_while0b_v244 : Ref sig .tc := ⟨.hbm, 337, rfl⟩
abbrev main_while0b_v245 : Ref sig .tc := ⟨.hbm, 338, rfl⟩
abbrev main_while0b_v246 : Ref sig .tc := ⟨.hbm, 339, rfl⟩
abbrev main_while0b_v247 : Ref sig .tc := ⟨.hbm, 340, rfl⟩
abbrev main_while0b_v248 : Ref sig .tc := ⟨.hbm, 341, rfl⟩
abbrev main_while0b_v249 : Ref sig .tc := ⟨.hbm, 342, rfl⟩
abbrev main_while0b_v250 : Ref sig .tc := ⟨.hbm, 343, rfl⟩
abbrev main_while0b_call1_v0 : Ref sig .tc := ⟨.hbm, 344, rfl⟩
abbrev main_while0b_call1_c : Ref sig .tc := ⟨.hbm, 345, rfl⟩
abbrev main_while0b_call1_c_0 : Ref sig .tc := ⟨.hbm, 346, rfl⟩
abbrev main_while0b_v251 : Ref sig .tc := ⟨.hbm, 347, rfl⟩
abbrev main_while0b_c_86 : Ref sig .tc := ⟨.hbm, 348, rfl⟩
abbrev main_while0b_v252 : Ref sig .tc := ⟨.hbm, 349, rfl⟩
abbrev main_v5 : Ref sig .tc := ⟨.hbm, 350, rfl⟩
abbrev main_v6 : Ref sig .tc := ⟨.hbm, 351, rfl⟩

abbrev nD : Nat := 1
abbrev τ : Topo := Topo.v7x

variable {F : FTy → Type} [FloatOps F]

abbrev main_while0_count : Scf.Loop 32 := ⟨0#32, 31#32, 1#32⟩
-- ==== Proof.MapBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Kit
public import Idealize.ShloMosaic.Lib.Pipeline.ValueKit
public import Idealize.ShloMosaic.Lib.Pipeline.TableIdle
public import Idealize.ShloMosaic.Lib.Pointwise
public import Idealize.ShloMosaic.Lib.Tactic

/-! The first kernel's body: the map it leaves in its result. -/

@[expose] public section

set_option maxRecDepth 16384

noncomputable section

namespace Cert.KernelIdeal.Map

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's own. -/
abbrev UU : Type := URounds (GSem nD τ sig) Unit

local notation "𝕄" => MT nD τ sig Unit (Elt F) ℕ UU ℕ

/-- The map the first kernel builds from the half step `h` and the matrix `w`. -/
def mapOf (h : S1x1.Idx → Elt F .f32) (w : S1024x1024.Idx → Elt F .f32) : S1024x1024.Idx → Elt F .fp8e4m3 :=
  k0_pay1 (k0_pay2 (h (ix2 (n0 := 1) (n1 := 1) 0 0)) w) k0_pay3

/-- A load of the whole of a square buffer reads its contents. -/
theorem load_whole {α : Type} (X : S1024x1024.Idx → α) :
    (fun y => X ((Rect.unit (s := S1024x1024) ![0, 0] ![1024, 1024] inb_S1024x1024_S1024x1024_0_0).idx y)) = X := by
  funext y
  refine congrArg X (funext fun a => Fin.ext ((Rect.idx_unit_val _ _ _ _ a).trans ?_))
  fin_cases a <;> exact Nat.zero_add _

/-- One store of a whole square buffer leaves what it stores. -/
theorem canon_whole [∀ e, Nonempty (Elt F e)] {e : EltTy} (w : S1024x1024.Idx → Elt F e) :
    View.canon (Val := Elt F) (s := S1024x1024) (e := e)
      [⟨Rect.unit ![0, 0] S1024x1024.size inb_S1024x1024_S1024x1024_0_0, w⟩] = w := by
  funext j
  refine View.canon_eq_of_allAt _ j _ (View.cover_of_tiled_head _ _ _ rfl j) ?_
  refine View.allAt_cons_unit _ _ _ _ _ (fun x hx => ?_) (View.allAt_nil _ _)
  refine congrArg w (funext fun a => Fin.ext ?_)
  fin_cases a
  · exact ((hx 0).trans (Nat.zero_add _)).symm
  · exact ((hx 1).trans (Nat.zero_add _)).symm

/-- The first kernel's body: it leaves its two inputs as they were and the map in its result. -/
theorem map_wp (c : Dev nD)
    (H : Memref sig .tc .smem S1x1 .f32) (hH : H.IsWhole)
    (A : Memref sig .tc .vmem S1024x1024 .f32) (hA : A.IsWhole)
    (D : Memref sig .tc .vmem S1024x1024 .fp8e4m3) (hD : D.IsWhole)
    (h : S1x1.Idx → Elt F .f32) (w : S1024x1024.Idx → Elt F .f32) (o : S1024x1024.Idx → Elt F .fp8e4m3)
    (E : Set ℕ) (Q : PUnit → sProp 𝕄) :
    iprop(owns (c : Thread nD τ) H fullShare h ∗ owns (c : Thread nD τ) A fullShare w ∗ owns (c : Thread nD τ) D fullShare o
        ∗ (iprop(owns (c : Thread nD τ) H fullShare h ∗ owns (c : Thread nD τ) A fullShare w
            ∗ owns (c : Thread nD τ) D fullShare (mapOf h w)) -∗ Q ⟨⟩))
      ⊢ wp frame (wpE (defs₀ (F := F)) Variants.none c none) E (cc0__build_map_kernel H hH A hA D hD) Q := by
  rw [owns_eq_rep, owns_eq_rep, owns_eq_rep]
  iintro ⟨HH, HA, HD, Hk⟩
  rw [cc0__build_map_kernel_eq_skeleton]
  unfold cc0__build_map_kernel_skel
  rw [k0_part1_eq_skeleton]
  unfold k0_part1_skel
  sl_exec!
  sl_step
  iapply Hk
  isplitl [HH]; · iexact HH
  isplitl [HA]; · iexact HA
  unfold owns; iexists _; isplitr; swap; (· iexact HD); ipureintro
  rw [View.read_writes_junk_eq_canon]
  unfold map_wp.sl.HD_1
  refine (canon_whole _).trans ?_
  simp only [View.readAt_rep]
  rw [load_whole]
  unfold mapOf map_wp.sl.r
  simp only [View.readAt_rep]
  refine congrArg (fun z => k0_pay1 (k0_pay2 z w) k0_pay3) (congrArg h (funext fun a => Fin.ext ?_))
  fin_cases a <;> rfl

end Cert.KernelIdeal.Map

end
-- ==== Proof.TrajBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Kit
public import Idealize.ShloMosaic.Lib.Pipeline.ValueKit
public import Idealize.ShloMosaic.Lib.Pipeline.TableIdle
public import Idealize.ShloMosaic.Lib.Pointwise
public import Idealize.ShloMosaic.Lib.Tactic

/-! The second kernel's body at one grid point: what it leaves in the output block and in the carried scratch. -/

@[expose] public section

set_option maxRecDepth 16384

noncomputable section

namespace Cert.KernelIdeal.Traj

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The user algebra: the pipeline library's own. -/
abbrev UU : Type := URounds (GSem nD τ sig) Unit

local notation "𝕄" => MT nD τ sig Unit (Elt F) ℕ UU ℕ

/-! ## One step of the trajectory, in row blocks -/

/-- The rectangle of the 256 rows from row `256 q`. -/
abbrev rows (q : Fin 4) : Rect S1024x1024 :=
  Rect.unit (s := S1024x1024) ![256 * q.val, 0] S256x1024.size (by intro a; fin_cases q <;> fin_cases a <;> decide)

/-- Four blocks of 256 rows, one under another. -/
def stack {α : Type} (P : Fin 4 → S256x1024.Idx → α) : S1024x1024.Idx → α := fun j =>
  P ⟨(j 0).val / 256, by have := (j 0).isLt; change (j 0).val < 1024 at this; omega⟩
    (ix2 (n0 := 256) (n1 := 1024) ⟨(j 0).val % 256, Nat.mod_lt _ (by decide)⟩ (j 1))

/-- One block of rows `y` advanced: `y + (y dᵀ) sc`. -/
def advance (sc : F .f32) (d : S1024x1024.Idx → Elt F .fp8e4m3) (y : S256x1024.Idx → Elt F .f32) : S256x1024.Idx → Elt F .f32 :=
  addf (φ := .f32) y (mulf (φ := .f32) (matmul dot_S256x1024_S1024x1024_S256x1024_1_1_0_0_n_n none (truncf (F := F) (φ := .f32) .fp8e4m3 y bitsLt_fp8e4m3_f32) d
    (constant S256x1024 .f32 0x00000000#32)) (broadcast S256x1024 sc))

/-- All rows advanced, block by block. -/
def advanceAll (sc : F .f32) (d : S1024x1024.Idx → Elt F .fp8e4m3) (y : S1024x1024.Idx → Elt F .f32) : S1024x1024.Idx → Elt F .f32 :=
  stack fun q => advance sc d (View.ld (Val := Elt F) (e' := .f32) y (rows q))

/-- What grid point `i` leaves, from the initial rows `y0` and the carried rows `s`: the first point advances `y0` by a
    zero step, every later one advances the carried rows. -/
def stepAt (i : grid1.Coords) (d : S1024x1024.Idx → Elt F .fp8e4m3) (y0 s : S1024x1024.Idx → Elt F .f32) : S1024x1024.Idx → Elt F .f32 :=
  stack fun q => k1_pay10 i d (View.ld (Val := Elt F) (e' := .f32) y0 (rows q)) (View.ld (Val := Elt F) (e' := .f32) s (rows q))

/-- The output block of a point that leaves rows `y`. -/
def asBlock {α : Type} (y : S1024x1024.Idx → α) : S1x1024x1024.Idx → α := fun j => y (ix2 (n0 := 1024) (n1 := 1024) (j 1) (j 2))

/-! ## The stored pieces are the step -/

/-- A row block read at the place where it lies. -/
theorem stack_at {α : Type} (P : Fin 4 → S256x1024.Idx → α) (q : Fin 4) (x : S256x1024.Idx) (j : S1024x1024.Idx)
    (h0 : (j 0).val = 256 * q.val + (x 0).val) (h1 : (j 1).val = (x 1).val) : P q x = stack P j := by
  have hx : (x 0).val < 256 := (x 0).isLt
  have hq : (⟨(j 0).val / 256, by have := (j 0).isLt; change (j 0).val < 1024 at this; omega⟩ : Fin 4) = q :=
    Fin.ext (by show (j 0).val / 256 = q.val; omega)
  unfold stack
  rw [hq]
  congr 1
  funext a
  fin_cases a
  · exact Fin.ext (by show (x 0).val = (j 0).val % 256; omega)
  · exact Fin.ext (by show (x 1).val = (j 1).val; omega)

/-- Four stores of row blocks leave the blocks stacked. -/
theorem canon_rows [∀ e, Nonempty (Elt F e)] (P : Fin 4 → S256x1024.Idx → Elt F .f32)
    (w3 w2 w1 w0 : S256x1024.Idx → Elt F .f32) (h3 : w3 = P 3) (h2 : w2 = P 2) (h1 : w1 = P 1) (h0 : w0 = P 0) :
    View.canon (Val := Elt F) (s := S1024x1024) (e := .f32)
      [⟨Rect.unit ![768, 0] S256x1024.size inb_S1024x1024_S256x1024_768_0, w3⟩,
       ⟨Rect.unit ![512, 0] S256x1024.size inb_S1024x1024_S256x1024_512_0, w2⟩,
       ⟨Rect.unit ![256, 0] S256x1024.size inb_S1024x1024_S256x1024_256_0, w1⟩,
       ⟨Rect.unit ![0, 0] S256x1024.size inb_S1024x1024_S256x1024_0_0, w0⟩] = stack P := by
  subst h3 h2 h1 h0
  funext j
  refine View.canon_eq_of_allAt _ j _ (View.cover_of_tiled_head _ _ _ rfl j) ?_
  refine View.allAt_cons_unit _ _ _ _ _ (fun x hx => stack_at P 3 x j (hx 0) ((hx 1).trans (Nat.zero_add _))) ?_
  refine View.allAt_cons_unit _ _ _ _ _ (fun x hx => stack_at P 2 x j (hx 0) ((hx 1).trans (Nat.zero_add _))) ?_
  refine View.allAt_cons_unit _ _ _ _ _ (fun x hx => stack_at P 1 x j (hx 0) ((hx 1).trans (Nat.zero_add _))) ?_
  refine View.allAt_cons_unit _ _ _ _ _ (fun x hx => stack_at P 0 x j (hx 0) ((hx 1).trans (Nat.zero_add _))) ?_
  exact View.allAt_nil _ _

/-- A row block given a leading axis, read at the place where it lies in the output block. -/
theorem block_at {α : Type} (P : Fin 4 → S256x1024.Idx → α) (q : Fin 4) (x : S1x256x1024.Idx) (j : S1x1024x1024.Idx)
    (h1 : (j 1).val = 256 * q.val + (x 1).val) (h2 : (j 2).val = (x 2).val) :
    shapeCast S1x256x1024 (P q) shapeCasts_S256x1024_S1x256x1024 x = asBlock (stack P) j := by
  rw [shapeCast_apply (P q) shapeCasts_S256x1024_S1x256x1024 x (ix2 (n0 := 256) (n1 := 1024) (x 1) (x 2))
    (by
      have hx : (x 0).val < 1 := (x 0).isLt
      rw [Shape.rowMajor_val_two, Shape.rowMajor_val_three]
      change (x 1).val * 1024 + (x 2).val = ((x 0).val * 256 + (x 1).val) * 1024 + (x 2).val
      omega)]
  exact stack_at P q _ _ h1 h2

/-- Four stores of row blocks into the output block leave the stacked blocks there. -/
theorem canon_block [∀ e, Nonempty (Elt F e)] (P : Fin 4 → S256x1024.Idx → Elt F .f32)
    (w3 w2 w1 w0 : S1x256x1024.Idx → Elt F .f32)
    (h3 : w3 = shapeCast S1x256x1024 (P 3) shapeCasts_S256x1024_S1x256x1024)
    (h2 : w2 = shapeCast S1x256x1024 (P 2) shapeCasts_S256x1024_S1x256x1024)
    (h1 : w1 = shapeCast S1x256x1024 (P 1) shapeCasts_S256x1024_S1x256x1024)
    (h0 : w0 = shapeCast S1x256x1024 (P 0) shapeCasts_S256x1024_S1x256x1024) :
    View.canon (Val := Elt F) (s := S1x1024x1024) (e := .f32)
      [⟨Rect.unit ![0, 768, 0] S1x256x1024.size inb_S1x1024x1024_S1x256x1024_0_768_0, w3⟩,
       ⟨Rect.unit ![0, 512, 0] S1x256x1024.size inb_S1x1024x1024_S1x256x1024_0_512_0, w2⟩,
       ⟨Rect.unit ![0, 256, 0] S1x256x1024.size inb_S1x1024x1024_S1x256x1024_0_256_0, w1⟩,
       ⟨Rect.unit ![0, 0, 0] S1x256x1024.size inb_S1x1024x1024_S1x256x1024_0_0_0, w0⟩] = asBlock (stack P) := by
  subst h3 h2 h1 h0
  funext j
  refine View.canon_eq_of_allAt _ j _ (View.cover_of_tiled_head _ _ _ rfl j) ?_
  refine View.allAt_cons_unit _ _ _ _ _ (fun x hx => block_at P 3 x j (hx 1) ((hx 2).trans (Nat.zero_add _))) ?_
  refine View.allAt_cons_unit _ _ _ _ _ (fun x hx => block_at P 2 x j (hx 1) ((hx 2).trans (Nat.zero_add _))) ?_
  refine View.allAt_cons_unit _ _ _ _ _ (fun x hx => block_at P 1 x j (hx 1) ((hx 2).trans (Nat.zero_add _))) ?_
  refine View.allAt_cons_unit _ _ _ _ _ (fun x hx => block_at P 0 x j (hx 1) ((hx 2).trans (Nat.zero_add _))) ?_
  exact View.allAt_nil _ _

/-- A load of the whole of a square buffer reads its contents. -/
theorem load_whole {α : Type} (X : S1024x1024.Idx → α) :
    (fun y => X ((Rect.unit (s := S1024x1024) ![0, 0] ![1024, 1024] inb_S1024x1024_S1024x1024_0_0).idx y)) = X := by
  funext y
  refine congrArg X (funext fun a => Fin.ext ((Rect.idx_unit_val _ _ _ _ a).trans ?_))
  fin_cases a <;> exact Nat.zero_add _

/-- The body at one grid point: the two inputs are left as they were, and the step's rows are left both in the output
    block and in the scratch. -/
theorem traj_wp (c : Dev nD) (i : grid1.Coords)
    (A : Memref sig .tc .vmem S1024x1024 .f32) (hA : A.IsWhole)
    (D : Memref sig .tc .vmem S1024x1024 .fp8e4m3) (hD : D.IsWhole)
    (O : Memref sig .tc .vmem S1x1024x1024 .f32) (hO : O.IsWhole)
    (S : Memref sig .tc .vmem S1024x1024 .f32) (hS : S.IsWhole)
    (y0 : S1024x1024.Idx → Elt F .f32) (d : S1024x1024.Idx → Elt F .fp8e4m3) (s : S1024x1024.Idx → Elt F .f32)
    (o : S1x1024x1024.Idx → Elt F .f32) (E : Set ℕ) (Q : PUnit → sProp 𝕄) :
    iprop(owns (c : Thread nD τ) A fullShare y0 ∗ owns (c : Thread nD τ) D fullShare d ∗ owns (c : Thread nD τ) O fullShare o
        ∗ owns (c : Thread nD τ) S fullShare s
        ∗ (iprop(owns (c : Thread nD τ) A fullShare y0 ∗ owns (c : Thread nD τ) D fullShare d
            ∗ owns (c : Thread nD τ) O fullShare (asBlock (stepAt i d y0 s)) ∗ owns (c : Thread nD τ) S fullShare (stepAt i d y0 s)) -∗ Q ⟨⟩))
      ⊢ wp frame (wpE (defs₀ (F := F)) Variants.none c none) E (cc1__traj_kernel i A hA D hD O hO S hS) Q := by
  rw [owns_eq_rep, owns_eq_rep, owns_eq_rep, owns_eq_rep]
  iintro ⟨HA, HD, HO, HS, Hk⟩
  rw [cc1__traj_kernel_eq_skeleton]
  unfold cc1__traj_kernel_skel
  rw [k1_part1_eq_skeleton]
  unfold k1_part1_skel
  sl_exec!
  sl_step
  iapply Hk
  isplitl [HA]; · iexact HA
  isplitl [HD]; · iexact HD
  isplitl [HO]
  · unfold owns; iexists _; isplitr; swap; (· iexact HO); ipureintro
    rw [View.read_writes_junk_eq_canon]
    unfold traj_wp.sl.HO_4 traj_wp.sl.v19 traj_wp.sl.v33 traj_wp.sl.v47 traj_wp.sl.v0
    simp only [View.readAt_rep]
    rw [load_whole]
    exact canon_block (fun q => k1_pay10 i d (View.ld y0 (rows q)) (View.ld s (rows q))) _ _ _ _ rfl rfl rfl rfl
  unfold owns; iexists _; isplitr; swap; (· iexact HS); ipureintro
  rw [View.read_writes_junk_eq_canon]
  unfold traj_wp.sl.HS_4 traj_wp.sl.v19 traj_wp.sl.v33 traj_wp.sl.v47 traj_wp.sl.v0
  simp only [View.readAt_rep]
  rw [load_whole]
  exact canon_rows (fun q => k1_pay10 i d (View.ld y0 (rows q)) (View.ld s (rows q))) _ _ _ _
    (by unfold k1_pay6; exact shapeCast_self _ _) (by unfold k1_pay3; exact shapeCast_self _ _)
    (by unfold k1_pay14; exact shapeCast_self _ _) (by unfold k1_pay11; exact shapeCast_self _ _)

end Cert.KernelIdeal.Traj

end
-- ==== Proof.Run.lean ====
module

public import proofs.«01_k».proof.Proof.MapBody
public import proofs.«01_k».proof.Proof.TrajBody
public import proofs.«01_k».proof.Proof.Gen.KernelIdeal.Regions
public import Idealize.ShloMosaic.Lib.Pipeline.RegionArraysS
public import Idealize.ShloMosaic.Lib.Pipeline.FrameBody

/-! The whole program's run: the two kernel regions' proof data over the memory at launch, and what every final state
    holds. -/

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion)

variable {F : FTy → Type} [FloatOps F] [Named F]

/-- The user algebra: the pipeline library's own. -/
abbrev UU : Type := URounds (GSem nD τ sig) Unit

local notation "𝕄" => MT nD τ sig Unit (Elt F) ℕ UU ℕ

variable (m : (ℓ : Loc nD τ sig) → Buf (Elt F) ℓ)

/-- Core `c`'s buffers before the first region: the launch's, after the host operations. -/
abbrev W1 (c : Dev nD) : Valuation τ sig (Elt F) := StableHlo.after hostOps0 (V0 m c)

/-- The first kernel's half step and matrix, as staged. -/
abbrev halfStep (c : Dev nD) : S1x1.Idx → Elt F .f32 := ((cfg0.win 0).blk t0_0).view.read (Elt F) (W1 m c main_call0_v6)
abbrev matrixIn (c : Dev nD) : S1024x1024.Idx → Elt F .f32 := ((cfg0.win 1).blk t0_0).view.read (Elt F) (W1 m c main_arg2)

/-- The first region's proof data: its inputs stay, its result holds the map. -/
def dat0 (c : Dev nD) : Dat τ (Elt F) Unit ℕ UU ℕ cfg0 c where
  A w := W1 m c (Pipeline.arrRef spec0 w)
  after w _ := match w with
    | ⟨0, _⟩ => halfStep m c
    | ⟨1, _⟩ => matrixIn m c
    | ⟨2, _⟩ => Map.mapOf (halfStep m c) (matrixIn m c)
  Φ _ := Pipeline.scopedRest (Ix := Unit) (Name := ℕ) (U := UU) (Lvl := ℕ) (Val := Elt F) spec0 c
  q _ := fullShare
  owed _ := 0

/-- Core `c`'s buffers after the first region. -/
abbrev W2 (c : Dev nD) : Valuation τ sig (Elt F) := afterRegion (dat0 m c) (W1 m c)

/-- The second kernel's first grid point. -/
abbrev p0 : Fin grid1.N := ⟨0, by decide⟩

/-- The second kernel's initial rows and map, as staged. -/
abbrev rowsIn (c : Dev nD) : S1024x1024.Idx → Elt F .f32 := ((cfg1.win 0).blk p0).view.read (Elt F) (W2 m c main_arg0)
abbrev mapIn (c : Dev nD) : S1024x1024.Idx → Elt F .fp8e4m3 := ((cfg1.win 1).blk p0).view.read (Elt F) (W2 m c main_call0_v7)

/-- The rows that the points before `n` leave in the scratch: the first advances the initial rows by a zero step,
    each later one advances what the one before left. -/
def carried (d : S1024x1024.Idx → Elt F .fp8e4m3) (y0 : S1024x1024.Idx → Elt F .f32) : ℕ → S1024x1024.Idx → Elt F .f32
  | 0 => y0
  | 1 => Traj.advanceAll (Scalar.ofBits .f32 0x00000000#32) d y0
  | n + 2 => Traj.advanceAll (Scalar.ofBits .f32 0x3A800000#32) d (carried d y0 (n + 1))

/-! ## One grid point of the second kernel -/

theorem coord (t : Fin grid1.N) : (grid1.coords t 0).val = t.val :=
  (by decide +kernel : ∀ t : Fin grid1.N, (grid1.coords t 0).val = t.val) t

/-- At the first point the step is the zero step from the initial rows, whatever the scratch held. -/
theorem stepAt_zero (i : grid1.Coords) (hi : (i 0).val = 0) (d : S1024x1024.Idx → Elt F .fp8e4m3) (y0 s : S1024x1024.Idx → Elt F .f32) :
    Traj.stepAt i d y0 s = Traj.advanceAll (Scalar.ofBits .f32 0x00000000#32) d y0 := by
  unfold Traj.stepAt Traj.advanceAll
  refine congrArg Traj.stack (funext fun q => ?_)
  have e9 : k1_pay9 (F := F) d = d := by unfold k1_pay9; exact shapeCast_self _ _
  unfold k1_pay10 k1_pay8
  simp only [e9, hi]
  rfl

/-- At a later point the step advances the rows in the scratch. -/
theorem stepAt_pos (i : grid1.Coords) (hi : (i 0).val ≠ 0) (d : S1024x1024.Idx → Elt F .fp8e4m3) (y0 s : S1024x1024.Idx → Elt F .f32) :
    Traj.stepAt i d y0 s = Traj.advanceAll (Scalar.ofBits .f32 0x3A800000#32) d s := by
  unfold Traj.stepAt Traj.advanceAll
  refine congrArg Traj.stack (funext fun q => ?_)
  have e9 : k1_pay9 (F := F) d = d := by unfold k1_pay9; exact shapeCast_self _ _
  have hc : Scalar.cmpi .eq (BitVec.ofNat 32 (i 0).val) 0#32 = 0#1 := by
    have hlt : (i 0).val < 32 := (i 0).isLt
    have hne : BitVec.ofNat 32 (i 0).val ≠ 0#32 := fun h => hi (by
      have := congrArg BitVec.toNat h
      simp only [BitVec.toNat_ofNat] at this
      omega)
    unfold Scalar.cmpi IntOp.cmpi
    rw [show (BitVec.ofNat 32 (i 0).val == 0#32) = false from beq_eq_false_iff_ne.mpr hne]
    rfl
  unfold k1_pay10 k1_pay8
  simp only [e9, hc]
  rfl

/-- The step at point `t` leaves the rows carried to point `t + 1`. -/
theorem stepAt_carried (t : Fin grid1.N) (d : S1024x1024.Idx → Elt F .fp8e4m3) (y0 s : S1024x1024.Idx → Elt F .f32)
    (hs : t.val ≠ 0 → s = carried d y0 t.val) : Traj.stepAt (grid1.coords t) d y0 s = carried d y0 (t.val + 1) := by
  obtain ⟨n, hn⟩ := t
  cases n with
  | zero => exact stepAt_zero _ (coord _) d y0 s
  | succ n =>
    rw [hs (Nat.succ_ne_zero n)]
    exact stepAt_pos _ (by rw [coord]; exact Nat.succ_ne_zero n) d y0 _

/-- What rides from point to point: the scratch, at the carried rows after the first point, and the first kernel's
    staging buffers. -/
def inv1 (d : S1024x1024.Idx → Elt F .fp8e4m3) (y0 : S1024x1024.Idx → Elt F .f32) (c : Dev nD) (n : ℕ) : sProp 𝕄 :=
  iprop((∃ f, ((c : Thread nD τ).loc cc0_stg1_0) ↦{fullShare} f) ∗ (∃ f, ((c : Thread nD τ).loc cc0_stg2_0) ↦{fullShare} f)
    ∗ (∃ s, ⌜n ≠ 0 → s = carried d y0 n⌝ ∗ owns (c : Thread nD τ) (Memref.whole cc1_scratch0) fullShare s)
    ∗ (∃ f, ((c : Thread nD τ).loc cc0_stg0_0) ↦{fullShare} f))

/-- The second region's proof data: its inputs stay, its output holds the point's rows. -/
def dat1 (c : Dev nD) : Dat τ (Elt F) Unit ℕ UU ℕ cfg1 c where
  A w := W2 m c (Pipeline.arrRef spec1 w)
  after w t := match w with
    | ⟨0, _⟩ => rowsIn m c
    | ⟨1, _⟩ => mapIn m c
    | ⟨2, _⟩ => Traj.asBlock (carried (mapIn m c) (rowsIn m c) (t.val + 1))
  Φ t := inv1 (mapIn m c) (rowsIn m c) c t.val
  q _ := fullShare
  owed _ := 0

/-- Core `c`'s buffers after the second region. -/
abbrev W3 (c : Dev nD) : Valuation τ sig (Elt F) := afterRegion (dat1 m c) (W2 m c)

/-- The proof data of both regions. -/
def dats : (p : Fin 2) → (c : Dev nD) → Dat τ (Elt F) Unit ℕ UU ℕ (cfgs p) c
  | ⟨0, _⟩ => fun c => dat0 m c
  | ⟨1, _⟩ => fun c => dat1 m c

/-! ## The bodies meet their obligations -/

theorem before0_0 (c : Dev nD) (t : Fin cfg0.N) (d) : (dat0 m c).before 0 t d = halfStep m c := by
  obtain rfl := fin_N0 t
  rw [Dat.before_fetched _ 0 t0_0 (fetch0_0 _)]; rfl
theorem before0_1 (c : Dev nD) (t : Fin cfg0.N) (d) : (dat0 m c).before 1 t d = matrixIn m c := by
  obtain rfl := fin_N0 t
  rw [Dat.before_fetched _ 1 t0_0 (fetch0_1 _)]; rfl

theorem body0 (c : Dev nD) : BodyObligation (dat0 m c) (defs₀ (F := F)) Variants.none () Set.univ := fun t => by
  rw [bigSep_W0, bigSep_W0]
  rw [show (dat0 m c).Φ t.castSucc = (dat0 m c).Φ t.succ from rfl]
  iintro ⟨HΦ, Howes, ⟨%d0, H0⟩, ⟨%d1, H1⟩, ⟨%d2, H2⟩⟩
  rw [before0_0, before0_1]
  iapply (Map.map_wp c _ _ _ _ _ _ (halfStep m c) (matrixIn m c) _ Set.univ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem before1_0 (c : Dev nD) (t : Fin cfg1.N) (d) : (dat1 m c).before 0 t d = rowsIn m c := by
  rw [Dat.before_in_eq_fetched _ 0 rfl (fun _ => rfl) (fun _ _ _ => rfl) (fun _ => rfl) t d]; rfl
theorem before1_1 (c : Dev nD) (t : Fin cfg1.N) (d) : (dat1 m c).before 1 t d = mapIn m c := by
  rw [Dat.before_in_eq_fetched _ 1 rfl (fun _ => rfl) (fun _ _ _ => rfl) (fun _ => rfl) t d]; rfl

theorem body1 (c : Dev nD) : BodyObligation (dat1 m c) (defs₀ (F := F)) Variants.none () Set.univ := fun t => by
  rw [bigSep_W1, bigSep_W1]
  rw [show (dat1 m c).Φ t.castSucc = inv1 (mapIn m c) (rowsIn m c) c t.val from rfl,
    show (dat1 m c).Φ t.succ = inv1 (mapIn m c) (rowsIn m c) c (t.val + 1) from rfl]
  unfold inv1
  iintro ⟨⟨Ha, Hb, ⟨%s, %hs, HS⟩, Hd⟩, Howes, ⟨%d0, H0⟩, ⟨%d1, H1⟩, ⟨%d2, H2⟩⟩
  rw [before1_0, before1_1]
  iapply (Traj.traj_wp c (grid1.coords t) _ _ _ _ _ _ _ _ (rowsIn m c) (mapIn m c) s _ Set.univ _)
  isplitl [H0]; · iexact H0
  isplitl [H1]; · iexact H1
  isplitl [H2]; · iexact H2
  isplitl [HS]; · iexact HS
  rw [stepAt_carried t (mapIn m c) (rowsIn m c) s hs]
  iintro ⟨H0, H1, H2, HS⟩
  isplitl [Ha Hb HS Hd]
  · isplitl [Ha]; · iexact Ha
    isplitl [Hb]; · iexact Hb
    isplitl [HS]
    · iexists _; isplitr; swap; (· iexact HS); ipureintro; exact fun _ => rfl
    iexact Hd
  isplitl [Howes]; · iexact Howes
  isplitl [H0]; · iexact H0
  isplitl [H1]; · iexact H1
  iexact H2

/-! ## The regions' records -/

/-- The levels: one, at the TensorCores' semaphores. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) (fun _ => 0) where
  hι c w s := by simp [L]
  hιb c w s := le_rfl
  hD c g i h := absurd h (lt_irrefl _)

/-- What rides beside the buffers: the core owes nothing. -/
abbrev R : Dev nD → sProp 𝕄 := fun c => iprop(∃ W, owes (c : Thread nD τ) (0 : CellTallies nD τ sig Unit) W)

theorem scoped_inv1 (c : Dev nD) (d : S1024x1024.Idx → Elt F .fp8e4m3) (y0 : S1024x1024.Idx → Elt F .f32) :
    iprop(Pipeline.scopedRest (Ix := Unit) (Name := ℕ) (U := UU) (Lvl := ℕ) (Val := Elt F) spec1 c ∗ BI.emp) ⊢ (inv1 d y0 c 0 : sProp 𝕄) := by
  rw [scopedRest1_eq]
  unfold inv1
  simp only [owns_whole_eq]
  iintro ⟨⟨Ha, Hb, ⟨%s, HS⟩, Hd⟩, -⟩
  isplitl [Ha]; · iexact Ha
  isplitl [Hb]; · iexact Hb
  isplitl [HS]
  · iexists s; isplitr
    · ipureintro; exact fun h => absurd rfl h
    iexists s; isplitr
    · ipureintro; rfl
    iexact HS
  iexact Hd

theorem inv1_scoped (c : Dev nD) (d : S1024x1024.Idx → Elt F .fp8e4m3) (y0 : S1024x1024.Idx → Elt F .f32) (n : ℕ) :
    (inv1 d y0 c n : sProp 𝕄) ⊢ iprop(Pipeline.scopedRest (Ix := Unit) (Name := ℕ) (U := UU) (Lvl := ℕ) (Val := Elt F) spec1 c ∗ BI.emp) := by
  rw [scopedRest1_eq]
  unfold inv1
  simp only [owns_whole_eq]
  iintro ⟨Ha, Hb, ⟨%s, -, ⟨%f, -, HS⟩⟩, Hd⟩
  isplitl [Ha Hb HS Hd]
  · isplitl [Ha]; · iexact Ha
    isplitl [Hb]; · iexact Hb
    isplitl [HS]; · iexists f; iexact HS
    iexact Hd
  iempintro

theorem drop_emp (P : sProp 𝕄) : iprop(P ∗ BI.emp) ⊢ P := by
  iintro ⟨H, -⟩; iexact H

theorem add_emp (P : sProp 𝕄) : P ⊢ iprop(P ∗ BI.emp) := by
  iintro H
  isplitl [H]
  · iexact H
  iempintro

/-- The first region's record. -/
def reg0 : Pipeline.RegionSeg (pcfgs (F := F)) adm (dats m) () defs₀ Variants.none L lv 0 :=
  Pipeline.RegionSeg.ofHeldIn (pcfgs (F := F)) adm (dats m) () defs₀ Variants.none L lv 0 (fun _ => 0) (Pipeline.ucRefs τ sig)
    (fun _ => BI.emp) (fun _ => BI.emp) launch0.toP rfl (fun c => (body0 m c).loose) (fun _ _ => rfl) (fun _ => rfl)
    (fun c w => (dat0 m c).share_full (fun _ => rfl) w) (fun _ => drop_emp _)
    (fun _ => add_emp _)
    (fun _ => 0) (cut 0) (fun _ => BI.emp) (W1 m) (fun c w => rfl)

/-- The second region's record. -/
def reg1 : Pipeline.RegionSeg (pcfgs (F := F)) adm (dats m) () defs₀ Variants.none L lv 1 :=
  Pipeline.RegionSeg.ofHeldIn (pcfgs (F := F)) adm (dats m) () defs₀ Variants.none L lv 1 (fun _ => 0) (Pipeline.ucRefs τ sig)
    (fun _ => BI.emp) (fun _ => BI.emp) launch1.toP rfl (fun c => (body1 m c).loose) (fun _ _ => rfl) (fun _ => rfl)
    (fun c w => (dat1 m c).share_full (fun _ => rfl) w) (fun c => scoped_inv1 c _ _)
    (fun c => inv1_scoped c _ _ _)
    (fun _ => 0) (cut 1) (fun _ => BI.emp) (W2 m) (fun c w => rfl)

/-! ## The run -/

/-- @main's items: the host operations, then the two regions. -/
abbrev items : List (Pipeline.Seg (pcfgs (F := F)) adm (dats m) () defs₀ Variants.none L lv) :=
  [.host (seg0 m Variants.none L lv (fun _ c => iprop(R c ∗ BI.emp ∗ BI.emp))), .region (reg0 m), .region (reg1 m)]

/-- An argument ends as launched. -/
theorem W3_arg (c : Dev nD) (r : Ref sig .tc) (h0 : r ∉ hostOps0_W)
    (h1 : ∀ w, Pipeline.arrRef spec0 w = r → (cfg0.win w).isOut = false) (h2 : ∀ w, Pipeline.arrRef spec1 w = r → (cfg1.win w).isOut = false) :
    W3 m c r = m ((c : Thread nD τ).loc r) :=
  (Pipeline.afterRegion_keeps (dat1 m c) (W2 m c) launch1.win.arr_inj (fun _ => rfl) r h2).trans
    ((Pipeline.afterRegion_keeps (dat0 m c) (W1 m c) launch0.win.arr_inj (fun _ => rfl) r h1).trans (V1_of m c r h0))

/-- The result ends as the second region's write-backs leave it. -/
theorem W3_out (c : Dev nD) : W3 m c main_v0 = (dat1 m c).arrAt 2 cfg1.N :=
  Pipeline.afterRegion_arr (dat1 m c) (W2 m c) launch1.win.arr_inj 2

theorem arrs0 : Pipeline.arrRefs (τ := τ) (pcfgs (F := F) 0).spec ⊆ Pipeline.ucRefs τ sig :=
  Pipeline.arrRefs_sub_ucRefs _ winFacts0.arr_unscoped
theorem arrs1 : Pipeline.arrRefs (τ := τ) (pcfgs (F := F) 1).spec ⊆ Pipeline.ucRefs τ sig :=
  Pipeline.arrRefs_sub_ucRefs _ winFacts1.arr_unscoped

/-- The host operations leave what the first region is entered from. -/
theorem link0 (c : Dev nD) : iprop(StableHlo.held (c : Thread nD τ) (Pipeline.ucRefs τ sig) (W1 m c) ∗ R c ∗ BI.emp ∗ BI.emp)
    ⊢ (reg0 m).pre c := by
  unfold reg0
  refine BIBase.Entails.trans ?_ (Pipeline.RegionSeg.ofHeldIn_pre arrs0 c)
  exact .rfl

/-- The first region leaves what the second is entered from. -/
theorem link1 (c : Dev nD) : (reg0 m).post c ⊢ (reg1 m).pre c := by
  refine BIBase.Entails.trans (Q := iprop(StableHlo.held (c : Thread nD τ) (Pipeline.ucRefs τ sig) (W2 m c) ∗ R c ∗ BI.emp ∗ BI.emp)) ?_ ?_
  · unfold reg0
    exact Pipeline.RegionSeg.ofHeldIn_post arrs0 c
  · unfold reg1
    refine BIBase.Entails.trans ?_ (Pipeline.RegionSeg.ofHeldIn_pre arrs1 c)
    exact .rfl

/-- The second region leaves the buffers at their last contents, the core owing nothing. -/
theorem link2 (c : Dev nD) : (reg1 m).post c
    ⊢ iprop(StableHlo.held (c : Thread nD τ) (Pipeline.ucRefs τ sig) (W3 m c) ∗ ∃ W, owes (c : Thread nD τ) (0 : CellTallies nD τ sig Unit) W) := by
  refine BIBase.Entails.trans (Q := iprop(StableHlo.held (c : Thread nD τ) (Pipeline.ucRefs τ sig) (W3 m c) ∗ R c ∗ BI.emp ∗ BI.emp)) ?_ (sep_mono .rfl ?_)
  · unfold reg1
    exact Pipeline.RegionSeg.ofHeldIn_post arrs1 c
  · iintro ⟨H, -⟩; iexact H

set_option backward.isDefEq.respectTransparency.types false in
/-- Every weakly fair execution of @main terminates; every final state has each argument as launched, the result as the
    second region's write-backs leave it, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (dat1 m c).arrAt 2 cfg1.N)
      ∧ r.2.sem = fun _ => 0) := by
  refine Pipeline.θ_run_regions_kit_sems (pcfgs (F := F)) adm (dats m) () cellOf_inj emb₁ defs₀ Variants.none L lv m ρ main
    (items m)
    (fun c Q => by rw [main_segs (F := F) adm (dats m) () Variants.none L lv (seg0 m Variants.none L lv (fun _ c => iprop(R c ∗ BI.emp ∗ BI.emp))) (reg0 m) (reg1 m) rfl c])
    (by simp only [Pipeline.Seg.pipes_host, Pipeline.Seg.pipes_region, Pipeline.Seg.pipes_nil]; decide)
    (O₀ := 0) (hL := fun g hg => if_neg hg)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ R c ∗ BI.emp ∗ BI.emp))
    (Tₙ := fun c => StableHlo.held (c : Thread nD τ) (Pipeline.ucRefs τ sig) (W3 m c))
    (hch := ⟨fun _ => .rfl, link0 m, link1 m, link2 m⟩)
    (hinit := ?_)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3)
      ∧ s.mem ((c.tc : Thread nD τ).loc main_v0) = (dat1 m c).arrAt 2 cfg1.N)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UU) (Lvl := ℕ) c (V0 m c)]
    iintro ⟨⟨Hh, -, HO, -⟩, -⟩
    imodintro
    isplitl [Hh]; · iexact Hh
    isplitl [HO]; · iexists ∅; iexact HO
    isplitr; · iempintro
    iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = W3 m c r :=
        fun r hr => h (Proc.devRef .tc r) (Pipeline.devRef_mem_ucRefs hr)
      exact ⟨(hr main_arg0 rfl).trans (W3_arg m c _ (by decide) (by decide) (by decide)),
        (hr main_arg1 rfl).trans (W3_arg m c _ (by decide) (by decide) (by decide)),
        (hr main_arg2 rfl).trans (W3_arg m c _ (by decide) (by decide) (by decide)),
        (hr main_arg3 rfl).trans (W3_arg m c _ (by decide) (by decide) (by decide)),
        (hr main_v0 rfl).trans (W3_out m c)⟩
    · iexact HSI

end Cert.KernelIdeal.Run

end
-- ==== Proof.Value.lean ====
module

public import proofs.«01_k».proof.Proof.Run
public import Idealize.ShloMosaic.Lib.StableHlo.RunRead

/-! What the program leaves, entry by entry: the result over the arguments at launch, at any float instance. -/

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Idealize.SL.Sem
open Idealize.ShloMosaic.Pipeline (Dat Cfg Window afterRegion)

variable {F : FTy → Type} [FloatOps F] [Named F]
variable (m : (ℓ : Loc nD τ sig) → Buf (Elt F) ℓ)

/-- All 32 blocks of rows: at point `t`, the rows carried to point `t + 1`. -/
def trajectory (d : S1024x1024.Idx → Elt F .fp8e4m3) (y0 : S1024x1024.Idx → Elt F .f32) : S32x1024x1024.Idx → Elt F .f32 :=
  fun j => carried d y0 ((j 0).val + 1) (ix2 (n0 := 1024) (n1 := 1024) (j 1) (j 2))

/-- The second region leaves all the blocks. -/
theorem out_eq (c : Dev nD) : (dat1 m c).arrAt 2 cfg1.N = trajectory (mapIn m c) (rowsIn m c) := by
  refine (dat1 m c).arrAt_eq_of_covers 2 (trajectory (mapIn m c) (rowsIn m c)) (by decide +kernel) (fun t _ y => ?_)
  have e : ∀ t : Fin cfg1.N, (cfg1.win 2).index t = ![t.val, 0, 0] := by
    decide +kernel
  show carried (mapIn m c) (rowsIn m c) (t.val + 1) _ = carried (mapIn m c) (rowsIn m c) _ _
  have h0 : (((cfg1.win 2).blk t).view.emb y 0 : ℕ) = t.val := by
    have := (y 0).isLt
    blk_simp [e t]
  have h1 : (((cfg1.win 2).blk t).view.emb y 1 : ℕ) = (y 1).val := by
    blk_simp [e t]
  have h2 : (((cfg1.win 2).blk t).view.emb y 2 : ℕ) = (y 2).val := by
    blk_simp [e t]
  rw [show ((win1_2.blk t).view.emb y 0).val = t.val from h0]
  refine congrArg _ (congrArg₂ _ (Fin.ext h1.symm) (Fin.ext h2.symm))

/-- The matrix that the first region reads is the third argument. -/
theorem matrixIn_eq (c : Dev nD) : matrixIn m c = m ((c : Thread nD τ).loc main_arg2) := by
  refine Eq.trans ?_ (V1_of m c main_arg2 (by decide))
  funext y
  have e : (cfg0.win 1).index t0_0 = ![0, 0] := by decide +kernel
  refine congrArg (W1 m c main_arg2) (show ((cfg0.win 1).blk t0_0).view.emb y = y from ?_)
  blk_ext [e]

/-- The rows that the second region reads are the first argument. -/
theorem rowsIn_eq (c : Dev nD) : rowsIn m c = m ((c : Thread nD τ).loc main_arg0) := by
  refine Eq.trans ?_ ((Pipeline.afterRegion_keeps (dat0 m c) (W1 m c) launch0.win.arr_inj (fun _ => rfl) main_arg0 (by decide)).trans
    (V1_of m c main_arg0 (by decide)))
  funext y
  have e : (cfg1.win 0).index p0 = ![0, 0] := by decide +kernel
  refine congrArg (W2 m c main_arg0) (show ((cfg1.win 0).blk p0).view.emb y = y from ?_)
  blk_ext [e]

/-- The map that the second region reads is the first region's. -/
theorem mapIn_eq (c : Dev nD) : mapIn m c = Map.mapOf (halfStep m c) (matrixIn m c) := by
  have hA : W2 m c main_call0_v7 = Map.mapOf (halfStep m c) (matrixIn m c) := by
    refine (Pipeline.afterRegion_arr (dat0 m c) (W1 m c) launch0.win.arr_inj 2).trans ?_
    refine (dat0 m c).arrAt_eq_of_covers 2 (Map.mapOf (halfStep m c) (matrixIn m c)) (by decide +kernel) (fun t _ y => ?_)
    obtain rfl := fin_N0 t
    have e : (cfg0.win 2).index t0_0 = ![0, 0] := by decide +kernel
    refine congrArg (Map.mapOf (halfStep m c) (matrixIn m c)) (show y = ((cfg0.win 2).blk t0_0).view.emb y from ?_)
    blk_ext [e]
  refine Eq.trans ?_ hA
  funext y
  have e : (cfg1.win 1).index p0 = ![0, 0] := by decide +kernel
  refine congrArg (W2 m c main_call0_v7) (show ((cfg1.win 1).blk p0).view.emb y = y from ?_)
  blk_ext [e]

/-- The half step is half the first interval. -/
theorem halfStep_eq (c : Dev nD) : halfStep m c (ix2 (n0 := 1) (n1 := 1) 0 0)
    = FloatOps.mulf (FloatOps.subf (m ((c : Thread nD τ).loc main_arg1) (ix1 (n0 := 32) 1)) (m ((c : Thread nD τ).loc main_arg1) (ix1 (n0 := 32) 0)))
      (FloatOps.ofBits .f32 0x3F000000#32 : F .f32) := by
  have e : W1 m c main_call0_v6 = fun _ => FloatOps.mulf (FloatOps.subf (m ((c : Thread nD τ).loc main_arg1) (ix1 (n0 := 32) 1)) (m ((c : Thread nD τ).loc main_arg1) (ix1 (n0 := 32) 0)))
      (FloatOps.ofBits .f32 0x3F000000#32 : F .f32) := by
    unfold W1
    after_reads_simp
    funext i
    change FloatOps.mulf (FloatOps.subf (m ((c : Thread nD τ).loc main_arg1) _) (m ((c : Thread nD τ).loc main_arg1) _)) _ = _
    have unit : ∀ (k : Fin 1) (n : ℕ), n + (k : ℕ) = n := fun k n => by omega
    refine congrArg₂ FloatOps.mulf (congrArg₂ FloatOps.subf (congrArg _ ?_) (congrArg _ ?_)) rfl
    all_goals
      funext a
      refine Fin.ext ?_
      fin_cases a
      exact unit _ _
  exact congrFun e _

end Cert.KernelIdeal.Run

end
-- ==== Proof.Consts.lean ====
module

public import Idealize.ShloMosaic.PureOps.Ideal.Laws
public import Idealize.ShloMosaic.Lib.IdealHost

/-! The floating-point constants of the two programs, as real numbers. -/

@[expose] public section

namespace Cert.Const

open Idealize.ShloMosaic

theorem n1 : Ideal.ofBits .f32 0x3F800000#32 = ((1 : ℝ) : EReal) := by
  simp [Ideal.ofBits, Ideal.ieee, -EReal.coe_mul]; norm_num
theorem n2 : Ideal.ofBits .f32 0x40000000#32 = ((2 : ℝ) : EReal) := by
  simp [Ideal.ofBits, Ideal.ieee, -EReal.coe_mul]; norm_num
theorem n3 : Ideal.ofBits .f32 0x40400000#32 = ((3 : ℝ) : EReal) := by
  simp [Ideal.ofBits, Ideal.ieee, -EReal.coe_mul]; norm_num
theorem n5 : Ideal.ofBits .f32 0x40A00000#32 = ((5 : ℝ) : EReal) := by
  simp [Ideal.ofBits, Ideal.ieee, -EReal.coe_mul]; norm_num
theorem n9 : Ideal.ofBits .f32 0x41100000#32 = ((9 : ℝ) : EReal) := by
  simp [Ideal.ofBits, Ideal.ieee, -EReal.coe_mul]; norm_num
theorem n11 : Ideal.ofBits .f32 0x41300000#32 = ((11 : ℝ) : EReal) := by
  simp [Ideal.ofBits, Ideal.ieee, -EReal.coe_mul]; norm_num
theorem n15 : Ideal.ofBits .f32 0x41700000#32 = ((15 : ℝ) : EReal) := by
  simp [Ideal.ofBits, Ideal.ieee, -EReal.coe_mul]; norm_num
theorem n32 : Ideal.ofBits .f32 0x42000000#32 = ((32 : ℝ) : EReal) := by
  simp [Ideal.ofBits, Ideal.ieee, -EReal.coe_mul]; norm_num
theorem n33 : Ideal.ofBits .f32 0x42040000#32 = ((33 : ℝ) : EReal) := by
  simp [Ideal.ofBits, Ideal.ieee, -EReal.coe_mul]; norm_num
theorem n35 : Ideal.ofBits .f32 0x420C0000#32 = ((35 : ℝ) : EReal) := by
  simp [Ideal.ofBits, Ideal.ieee, -EReal.coe_mul]; norm_num
theorem n40 : Ideal.ofBits .f32 0x42200000#32 = ((40 : ℝ) : EReal) := by
  simp [Ideal.ofBits, Ideal.ieee, -EReal.coe_mul]; norm_num
theorem n44 : Ideal.ofBits .f32 0x42300000#32 = ((44 : ℝ) : EReal) := by
  simp [Ideal.ofBits, Ideal.ieee, -EReal.coe_mul]; norm_num
theorem n45 : Ideal.ofBits .f32 0x42340000#32 = ((45 : ℝ) : EReal) := by
  simp [Ideal.ofBits, Ideal.ieee, -EReal.coe_mul]; norm_num
theorem n49 : Ideal.ofBits .f32 0x42440000#32 = ((49 : ℝ) : EReal) := by
  simp [Ideal.ofBits, Ideal.ieee, -EReal.coe_mul]; norm_num
theorem n56 : Ideal.ofBits .f32 0x42600000#32 = ((56 : ℝ) : EReal) := by
  simp [Ideal.ofBits, Ideal.ieee, -EReal.coe_mul]; norm_num
theorem n84 : Ideal.ofBits .f32 0x42A80000#32 = ((84 : ℝ) : EReal) := by
  simp [Ideal.ofBits, Ideal.ieee, -EReal.coe_mul]; norm_num
theorem n125 : Ideal.ofBits .f32 0x42FA0000#32 = ((125 : ℝ) : EReal) := by
  simp [Ideal.ofBits, Ideal.ieee, -EReal.coe_mul]; norm_num
theorem n176 : Ideal.ofBits .f32 0x43300000#32 = ((176 : ℝ) : EReal) := by
  simp [Ideal.ofBits, Ideal.ieee, -EReal.coe_mul]; norm_num
theorem n192 : Ideal.ofBits .f32 0x43400000#32 = ((192 : ℝ) : EReal) := by
  simp [Ideal.ofBits, Ideal.ieee, -EReal.coe_mul]; norm_num
theorem n212 : Ideal.ofBits .f32 0x43540000#32 = ((212 : ℝ) : EReal) := by
  simp [Ideal.ofBits, Ideal.ieee, -EReal.coe_mul]; norm_num
theorem n355 : Ideal.ofBits .f32 0x43B18000#32 = ((355 : ℝ) : EReal) := by
  simp [Ideal.ofBits, Ideal.ieee, -EReal.coe_mul]; norm_num
theorem n384 : Ideal.ofBits .f32 0x43C00000#32 = ((384 : ℝ) : EReal) := by
  simp [Ideal.ofBits, Ideal.ieee, -EReal.coe_mul]; norm_num
theorem n500 : Ideal.ofBits .f32 0x43FA0000#32 = ((500 : ℝ) : EReal) := by
  simp [Ideal.ofBits, Ideal.ieee, -EReal.coe_mul]; norm_num
theorem n729 : Ideal.ofBits .f32 0x44364000#32 = ((729 : ℝ) : EReal) := by
  simp [Ideal.ofBits, Ideal.ieee, -EReal.coe_mul]; norm_num
theorem n1024 : Ideal.ofBits .f32 0x44800000#32 = ((1024 : ℝ) : EReal) := by
  simp [Ideal.ofBits, Ideal.ieee, -EReal.coe_mul]; norm_num
theorem n1113 : Ideal.ofBits .f32 0x448B2000#32 = ((1113 : ℝ) : EReal) := by
  simp [Ideal.ofBits, Ideal.ieee, -EReal.coe_mul]; norm_num
theorem n2187 : Ideal.ofBits .f32 0x4508B000#32 = ((2187 : ℝ) : EReal) := by
  simp [Ideal.ofBits, Ideal.ieee, -EReal.coe_mul]; norm_num
theorem n3168 : Ideal.ofBits .f32 0x45460000#32 = ((3168 : ℝ) : EReal) := by
  simp [Ideal.ofBits, Ideal.ieee, -EReal.coe_mul]; norm_num
theorem n4096 : Ideal.ofBits .f32 0x45800000#32 = ((4096 : ℝ) : EReal) := by
  simp [Ideal.ofBits, Ideal.ieee, -EReal.coe_mul]; norm_num
theorem n5103 : Ideal.ofBits .f32 0x459F7800#32 = ((5103 : ℝ) : EReal) := by
  simp [Ideal.ofBits, Ideal.ieee, -EReal.coe_mul]; norm_num
theorem n5247 : Ideal.ofBits .f32 0x45A3F800#32 = ((5247 : ℝ) : EReal) := by
  simp [Ideal.ofBits, Ideal.ieee, -EReal.coe_mul]; norm_num
theorem n6561 : Ideal.ofBits .f32 0x45CD0800#32 = ((6561 : ℝ) : EReal) := by
  simp [Ideal.ofBits, Ideal.ieee, -EReal.coe_mul]; norm_num
theorem n6784 : Ideal.ofBits .f32 0x45D40000#32 = ((6784 : ℝ) : EReal) := by
  simp [Ideal.ofBits, Ideal.ieee, -EReal.coe_mul]; norm_num
theorem n9017 : Ideal.ofBits .f32 0x460CE400#32 = ((9017 : ℝ) : EReal) := by
  simp [Ideal.ofBits, Ideal.ieee, -EReal.coe_mul]; norm_num
theorem n18656 : Ideal.ofBits .f32 0x4691C000#32 = ((18656 : ℝ) : EReal) := by
  simp [Ideal.ofBits, Ideal.ieee, -EReal.coe_mul]; norm_num
theorem n19372 : Ideal.ofBits .f32 0x46975800#32 = ((19372 : ℝ) : EReal) := by
  simp [Ideal.ofBits, Ideal.ieee, -EReal.coe_mul]; norm_num
theorem n25360 : Ideal.ofBits .f32 0x46C62000#32 = ((25360 : ℝ) : EReal) := by
  simp [Ideal.ofBits, Ideal.ieee, -EReal.coe_mul]; norm_num
theorem n46732 : Ideal.ofBits .f32 0x47368C00#32 = ((46732 : ℝ) : EReal) := by
  simp [Ideal.ofBits, Ideal.ieee, -EReal.coe_mul]; norm_num
theorem n64448 : Ideal.ofBits .f32 0x477BC000#32 = ((64448 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem thirtysecond : Ideal.ofBits .f32 0x3D000000#32 = ((1 / 32 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem inv2p24 : Ideal.ofBits .f32 0x33800000#32 = ((1 / 16777216 : ℝ) : EReal) := by
  simp [Ideal.ofBits, Ideal.ieee, -EReal.coe_mul]; norm_num
theorem inv2p25 : Ideal.ofBits .f32 0x33000000#32 = ((1 / 33554432 : ℝ) : EReal) := by
  simp [Ideal.ofBits, Ideal.ieee, -EReal.coe_mul]; norm_num

end Cert.Const

end
-- ==== Proof.Matrices.lean ====
module

public import Idealize.ShloMosaic.PureOps.Ideal.Laws
public import Idealize.ShloMosaic.Lib.MatmulPlain
public import Idealize.ShloMosaic.Lib.StackMember
public import Idealize.ShloMosaic.Lib.Pipeline.Value
public import Idealize.ShloMosaic.Lib.Pointwise
public import Mathlib.Data.Matrix.Mul
public import Mathlib.Tactic.Module

/-! Real matrices among the arrays: the array operations on arrays whose entries are real numbers are the operations on
    the matrices of those numbers. -/

@[expose] public section

noncomputable section

namespace Cert.RealMatrix

open Idealize.ShloMosaic

variable {m n k : ℕ} {φ φ' : FTy} {s t : Shape}

/-- The array of a real matrix's entries. -/
def lift (φ : FTy) (A : Matrix (Fin m) (Fin n) ℝ) : FVec Ideal ⟨2, ![m, n]⟩ φ := fun i => ((A (i 0) (i 1) : ℝ) : EReal)

/-- The array with one real number at every index. -/
def num (φ : FTy) (s : Shape) (a : ℝ) : FVec Ideal s φ := fun _ => ((a : ℝ) : EReal)

theorem addf_lift (A B : Matrix (Fin m) (Fin n) ℝ) : addf (lift φ A) (lift φ B) = lift φ (A + B) :=
  funext fun _ => (EReal.coe_add _ _).symm

theorem subf_lift (A B : Matrix (Fin m) (Fin n) ℝ) : subf (lift φ A) (lift φ B) = lift φ (A - B) :=
  funext fun _ => (EReal.coe_sub _ _).symm

theorem mulf_num_lift (a : ℝ) (A : Matrix (Fin m) (Fin n) ℝ) : mulf (num φ _ a) (lift φ A) = lift φ (a • A) :=
  funext fun _ => (EReal.coe_mul _ _).symm

theorem mulf_lift_num (a : ℝ) (A : Matrix (Fin m) (Fin n) ℝ) : mulf (lift φ A) (num φ _ a) = lift φ (a • A) :=
  (funext fun _ => mul_comm (G := EReal) _ _ : mulf (lift φ A) (num φ _ a) = mulf (num φ _ a) (lift φ A)).trans (mulf_num_lift a A)

theorem mulf_num (a b : ℝ) : mulf (num φ s a) (num φ s b) = num φ s (a * b) :=
  funext fun _ => (EReal.coe_mul _ _).symm

/-- A quotient of two constants. -/
theorem divf_num (a b : ℝ) (hb : b ≠ 0) : Host.divf (num φ s a) (num φ s b) = num φ s (a / b) :=
  funext fun _ => (Ideal.div_coe hb _).trans ((EReal.coe_mul _ _).symm.trans (congrArg _ (mul_one_div a b)))

theorem constant_num {p : BitVec 32} {a : ℝ} (h : Ideal.ofBits .f32 p = ((a : ℝ) : EReal)) :
    (constant s .f32 p : FVec Ideal s .f32) = num .f32 s a := funext fun _ => h

theorem broadcast_num {p : BitVec 32} {a : ℝ} (h : Ideal.ofBits .f32 p = ((a : ℝ) : EReal)) :
    broadcast s (Scalar.ofBits (F := Ideal) .f32 p) = num .f32 s a := funext fun _ => h

theorem broadcastInDim_num (dims : Fin s.rank → Fin t.rank) (h : s.BroadcastsInDim t dims) (a : ℝ) :
    broadcastInDim t dims h (num φ s a) = num φ t a := rfl

theorem truncf_lift (A : Matrix (Fin m) (Fin n) ℝ) (h) : truncf φ' (lift φ A) h = lift φ' A := rfl

/-- A sum of products of reals is a real. -/
theorem sum_coe (f g : Fin k → ℝ) : (∑ c, ((f c : ℝ) : EReal) * ((g c : ℝ) : EReal)) = ((∑ c, f c * g c : ℝ) : EReal) := by
  have key : ∀ u : Finset (Fin k), (∑ c ∈ u, ((f c : ℝ) : EReal) * ((g c : ℝ) : EReal)) = ((∑ c ∈ u, f c * g c : ℝ) : EReal) := by
    intro u
    induction u using Finset.induction_on with
    | empty => simp
    | insert c u hc ih => rw [Finset.sum_insert hc, Finset.sum_insert hc, ih, EReal.coe_add, EReal.coe_mul]
  exact key Finset.univ

theorem dotGeneral_lift {φ₁ φ₂ : FTy} (A : Matrix (Fin m) (Fin k) ℝ) (B : Matrix (Fin k) (Fin n) ℝ) :
    Host.dotGeneral (DotDims.plain m k n) none (lift φ₁ A) (lift φ₂ B) = lift .f32 (A * B) := by
  funext i
  obtain ⟨a, b, rfl⟩ : ∃ (a : Fin m) (b : Fin n), i = ix2 a b := ⟨i 0, i 1, eq_ix2 i⟩
  exact (StackMember.dotGeneral_plain_apply none _ _ a b).trans (sum_coe _ _)

theorem matmul_lift {φ₁ φ₂ : FTy} (A : Matrix (Fin m) (Fin k) ℝ) (B : Matrix (Fin k) (Fin n) ℝ) :
    matmul (DotDims.plain m k n) none (lift φ₁ A) (lift φ₂ B) (constant _ .f32 0x00000000#32) = lift .f32 (A * B) := by
  funext i
  obtain ⟨a, b, rfl⟩ : ∃ (a : Fin m) (b : Fin n), i = ix2 a b := ⟨i 0, i 1, eq_ix2 i⟩
  refine (Ideal.matmul_plain_apply none _ _ _ a b).trans ?_
  refine (congrArg (· + _) Ideal.ofBits_zero_f32).trans ((zero_add _).trans ?_)
  exact sum_coe _ _

theorem matmul_transposed_lift {φ₁ φ₂ : FTy} (A : Matrix (Fin m) (Fin k) ℝ) (B : Matrix (Fin n) (Fin k) ℝ) :
    matmul (DotDims.transposedRhs m k n) none (lift φ₁ A) (lift φ₂ B) (constant _ .f32 0x00000000#32) = lift .f32 (A * B.transpose) := by
  funext i
  obtain ⟨a, b, rfl⟩ : ∃ (a : Fin m) (b : Fin n), i = ix2 a b := ⟨i 0, i 1, eq_ix2 i⟩
  refine (Ideal.matmul_transposedRhs_apply none _ _ _ a b).trans ?_
  refine (congrArg (· + _) Ideal.ofBits_zero_f32).trans ((zero_add _).trans ?_)
  exact sum_coe _ _

theorem transpose_lift (A : Matrix (Fin m) (Fin n) ℝ) (h) :
    transpose ⟨2, ![n, m]⟩ [1, 0] (lift φ A) h = lift φ A.transpose := by
  funext i
  refine (transpose_apply [1, 0] (lift φ A) h i (ix2 (i 1) (i 0)) fun b => ?_).trans rfl
  fin_cases b <;> rfl

end Cert.RealMatrix

end
-- ==== Proof.Algebra.lean ====
module

public import Mathlib.Data.Matrix.Mul
public import Mathlib.Data.Real.Basic
public import Mathlib.Tactic.Module
public import Mathlib.Tactic.FieldSimp

/-! The mathematics, over the reals: the Runge–Kutta step on a linear right-hand side is a polynomial of degree six in
    the step times the map, and two steps are the kernel's one step with the doubled map. -/

@[expose] public section

noncomputable section

namespace Cert.Algebra

section Step

variable {E : Type} [AddCommGroup E] [Module ℝ E] (T : E →ₗ[ℝ] E) (h : ℝ) (y : E)

/-- The stages of the step from `y`, on the right-hand side `T`. -/
def k1 : E := T y
def k2 : E := T (y + (h * (1 / 5)) • k1 T y)
def k3 : E := T (y + h • ((3 / 40 : ℝ) • k1 T y + (9 / 40 : ℝ) • k2 T h y))
def k4 : E := T (y + h • ((44 / 45 : ℝ) • k1 T y - (56 / 15 : ℝ) • k2 T h y + (32 / 9 : ℝ) • k3 T h y))
def k5 : E := T (y + h • ((19372 / 6561 : ℝ) • k1 T y - (25360 / 2187 : ℝ) • k2 T h y + (64448 / 6561 : ℝ) • k3 T h y
  - (212 / 729 : ℝ) • k4 T h y))
def k6 : E := T (y + h • ((9017 / 3168 : ℝ) • k1 T y - (355 / 33 : ℝ) • k2 T h y + (46732 / 5247 : ℝ) • k3 T h y
  + (49 / 176 : ℝ) • k4 T h y - (5103 / 18656 : ℝ) • k5 T h y))
/-- The step. -/
def step : E := y + h • ((35 / 384 : ℝ) • k1 T y + (500 / 1113 : ℝ) • k3 T h y + (125 / 192 : ℝ) • k4 T h y
  - (2187 / 6784 : ℝ) • k5 T h y + (11 / 84 : ℝ) • k6 T h y)

/-- The step is a polynomial of degree six in `h T`. -/
theorem step_eq : step T h y = y + h • T y + (h ^ 2 / 2) • T (T y) + (h ^ 3 / 6) • T (T (T y)) + (h ^ 4 / 24) • T (T (T (T y)))
    + (h ^ 5 / 120) • T (T (T (T (T y)))) + (h ^ 6 / 600) • T (T (T (T (T (T y))))) := by
  unfold step k6 k5 k4 k3 k2 k1
  simp only [map_add, map_sub, map_smul]
  module

end Step

section Map

variable {n : ℕ}

/-- Multiplication on the right by the transpose of `W`. -/
def right (W : Matrix (Fin n) (Fin n) ℝ) : Matrix (Fin n) (Fin n) ℝ →ₗ[ℝ] Matrix (Fin n) (Fin n) ℝ where
  toFun Y := Y * W.transpose
  map_add' := fun A B => Matrix.add_mul A B _
  map_smul' := fun a A => Matrix.smul_mul a A _

/-- The kernel's polynomial of `G`. -/
def poly (G : Matrix (Fin n) (Fin n) ℝ) : Matrix (Fin n) (Fin n) ℝ :=
  G + (1 / 2 : ℝ) • (G * G) + (1 / 6 : ℝ) • (G * G * G) + (1 / 24 : ℝ) • (G * G * G * G) + (1 / 120 : ℝ) • (G * G * G * G * G)
    + (1 / 600 : ℝ) • (G * G * G * G * G * G)

/-- One step adds the rows times the transposed polynomial. -/
theorem step_right (W : Matrix (Fin n) (Fin n) ℝ) (h : ℝ) (Y : Matrix (Fin n) (Fin n) ℝ) :
    step (right W) h Y = Y + Y * (poly (h • W)).transpose := by
  rw [step_eq]
  simp only [right, LinearMap.coe_mk, AddHom.coe_mk, poly, Matrix.transpose_add, Matrix.transpose_smul, Matrix.transpose_mul, Matrix.smul_mul,
    Matrix.mul_smul, Matrix.mul_add, smul_smul, Matrix.mul_assoc]
  module

/-- Two steps are the rows plus the rows times the transpose of twice the polynomial plus its square. -/
theorem two_steps (W : Matrix (Fin n) (Fin n) ℝ) (h : ℝ) (Y : Matrix (Fin n) (Fin n) ℝ) :
    step (right W) h (step (right W) h Y)
      = Y + Y * ((2 : ℝ) • poly (h • W) + poly (h • W) * poly (h • W)).transpose := by
  rw [step_right, step_right]
  simp only [Matrix.transpose_add, Matrix.transpose_smul, Matrix.transpose_mul, Matrix.mul_add, Matrix.add_mul, Matrix.mul_smul, Matrix.mul_assoc]
  module

/-- The rows after `k` intervals of two steps each. -/
def flow (W : Matrix (Fin n) (Fin n) ℝ) (h : ℝ) (Y : Matrix (Fin n) (Fin n) ℝ) : ℕ → Matrix (Fin n) (Fin n) ℝ
  | 0 => Y
  | k + 1 => step (right W) h (step (right W) h (flow W h Y k))

end Map

end Cert.Algebra

end
-- ==== Proof.KernelValue.lean ====
module

public import proofs.«01_k».proof.Proof.Value
public import proofs.«01_k».proof.Proof.Consts
public import proofs.«01_k».proof.Proof.Matrices
public import proofs.«01_k».proof.Proof.Algebra

/-! The kernel's result over real arguments: at grid point `t`, the rows after `t` intervals. -/

@[expose] public section

set_option maxRecDepth 16384

noncomputable section

namespace Cert.KernelIdeal.Run

open Cert.KernelIdeal Cert.KernelIdeal.Gen
open Idealize.ShloMosaic
open Idealize.ShloMosaic.TcCoe Idealize.ShloMosaic.Tactic
open Cert.RealMatrix Cert.Algebra

/-- A square real matrix of the problem's size. -/
abbrev Square : Type := Matrix (Fin 1024) (Fin 1024) ℝ

theorem g2_val : (Named.named κ "g2" 0x2EAAAAAB#32 : Ideal .f32) = ((1 / 12884901888 : ℝ) : EReal) := IdealRules.named_const.ideal_named_scalar _ _ _ _ rfl
theorem g3_val : (Named.named κ "g3" 0x2A2AAAAB#32 : Ideal .f32) = ((1 / 6597069766656 : ℝ) : EReal) := IdealRules.named_const.ideal_named_scalar _ _ _ _ rfl
theorem g4_val : (Named.named κ "g4" 0x25888889#32 : Ideal .f32) = ((1 / 4222124650659840 : ℝ) : EReal) := IdealRules.named_const.ideal_named_scalar _ _ _ _ rfl
theorem g5_val : (Named.named κ "g5" 0x20DA740E#32 : Ideal .f32) = ((1 / 2702159776422297600 : ℝ) : EReal) := IdealRules.named_const.ideal_named_scalar _ _ _ _ rfl

/-- A named constant, broadcast. -/
theorem broadcast_of_eq {s : Shape} {x : Ideal .f32} {a : ℝ} (h : x = ((a : ℝ) : EReal)) : broadcast s x = num .f32 s a := funext fun _ => h

/-- The product of two real matrices, as the programs write it. -/
theorem dot_eq {φ₁ φ₂ : FTy} (A B : Square) :
    matmul dot_S1024x1024_S1024x1024_S1024x1024_1_0_0_1_n_n none (lift φ₁ A) (lift φ₂ B) (constant S1024x1024 .f32 0x00000000#32) = lift .f32 (A * B) :=
  matmul_lift A B

/-- The sum that the first kernel forms is the polynomial of the scaled matrix. -/
theorem sum_lift (h : ℝ) (W : Square) : k0_pay2 (F := Ideal) ((h : ℝ) : EReal) (lift .f32 W) = lift .f32 (poly (h • W)) := by
  unfold k0_pay2
  simp only [broadcast_of_eq (x := ((h : ℝ) : EReal)) rfl, broadcast_of_eq g2_val, broadcast_of_eq g3_val, broadcast_of_eq g4_val, broadcast_of_eq g5_val,
    broadcast_num Const.n4096, broadcast_num Const.thirtysecond, broadcast_num Const.inv2p25, mulf_num_lift, mulf_lift_num, addf_lift, truncf_lift, dot_eq]
  refine congrArg (lift .f32) ?_
  simp only [poly, Matrix.smul_mul, Matrix.mul_smul, smul_smul]
  module

/-- The map of real arguments. -/
theorem map_lift (h : S1x1.Idx → EReal) (a : ℝ) (ha : h (ix2 (n0 := 1) (n1 := 1) 0 0) = ((a : ℝ) : EReal)) (W : Square) :
    Map.mapOf (F := Ideal) h (lift .f32 W)
      = lift .fp8e4m3 ((1024 : ℝ) • ((2 : ℝ) • poly (a • W) + poly (a • W) * poly (a • W))) := by
  unfold Map.mapOf
  rw [ha, sum_lift]
  unfold k0_pay1 k0_pay3
  simp only [broadcast_num Const.n4096, broadcast_num Const.n2, broadcast_num Const.n1024, broadcast_num Const.inv2p24, mulf_num_lift, mulf_lift_num,
    addf_lift, truncf_lift, dot_eq]
  refine congrArg (lift .fp8e4m3) ?_
  simp only [Matrix.smul_mul, Matrix.mul_smul, smul_smul]
  module

/-- Row block `q` of a matrix. -/
def block (Y : Square) (q : Fin 4) : Matrix (Fin 256) (Fin 1024) ℝ :=
  fun r c => Y ⟨256 * q.val + r.val, by have := q.isLt; have := r.isLt; omega⟩ c

theorem ld_lift (Y : Square) (q : Fin 4) :
    View.ld (Val := Elt Ideal) (e' := .f32) (lift .f32 Y) (Traj.rows q) = lift .f32 (block Y q) := by
  funext x
  change lift .f32 Y ((Traj.rows q).idx x) = _
  have h0 : ((Traj.rows q).idx x 0).val = 256 * q.val + (x 0).val := Rect.idx_unit_val _ _ _ _ 0
  have h1 : ((Traj.rows q).idx x 1).val = (x 1).val := (Rect.idx_unit_val _ _ _ _ 1).trans (Nat.zero_add _)
  unfold lift block
  exact congrArg _ (congrArg₂ Y (Fin.ext h0) (Fin.ext h1))

/-- All rows of a real matrix advanced. -/
theorem advanceAll_lift (p : BitVec 32) (a : ℝ) (hp : Ideal.ofBits .f32 p = ((a : ℝ) : EReal)) (D Y : Square) :
    Traj.advanceAll (F := Ideal) (Scalar.ofBits .f32 p) (lift .fp8e4m3 D) (lift .f32 Y) = lift .f32 (Y + a • (Y * D.transpose)) := by
  have e : ∀ q : Fin 4, Traj.advance (F := Ideal) (Scalar.ofBits .f32 p) (lift .fp8e4m3 D) (lift .f32 (block Y q))
      = lift .f32 (block Y q + a • (block Y q * D.transpose)) := fun q => by
    unfold Traj.advance
    have dot := matmul_transposed_lift (φ₁ := .fp8e4m3) (φ₂ := .fp8e4m3) (block Y q) D
    rw [truncf_lift, broadcast_num hp]
    refine (congrArg (fun z => addf _ (mulf z _)) dot).trans ?_
    rw [mulf_lift_num, addf_lift]
  unfold Traj.advanceAll
  simp only [ld_lift, e]
  funext j
  unfold Traj.stack lift
  have hj : (⟨256 * ((j 0).val / 256) + (j 0).val % 256, by have := (j 0).isLt; change (j 0).val < 1024 at this; omega⟩ : Fin 1024) = j 0 :=
    Fin.ext (Nat.div_add_mod _ _)
  refine congrArg _ ?_
  show (Y + a • (Y * D.transpose)) ⟨256 * ((j 0).val / 256) + (j 0).val % 256, _⟩ (j 1) = _
  rw [hj]

/-- The rows carried are the rows after the intervals so far. -/
theorem carried_lift (h : ℝ) (W Y : Square) : ∀ n : ℕ,
    carried (F := Ideal) (lift .fp8e4m3 ((1024 : ℝ) • ((2 : ℝ) • poly (h • W) + poly (h • W) * poly (h • W)))) (lift .f32 Y) (n + 1)
      = lift .f32 (flow W h Y n)
  | 0 => by
    unfold carried flow
    rw [advanceAll_lift _ 0 Ideal.ofBits_zero_f32, zero_smul, add_zero]
  | n + 1 => by
    unfold carried flow
    rw [carried_lift h W Y n, advanceAll_lift _ _ Const.inv1024, two_steps]
    refine congrArg (lift .f32) ?_
    rw [Matrix.transpose_smul, Matrix.mul_smul, smul_smul]
    norm_num

/-- The result array of real arguments: the start and the rows after each interval. -/
def rowsAfter (W : Square) (h : ℝ) (Y : Square) : S32x1024x1024.Idx → EReal :=
  fun j => ((flow W h Y (j 0).val (j 1) (j 2) : ℝ) : EReal)

/-- On real arguments, the kernel leaves the rows after each interval, at half the first interval a step. -/
theorem out_lift (m : (ℓ : Loc nD τ sig) → Buf (Elt Ideal) ℓ) (c : Dev nD) (Y W : Square) (t0 t1 : ℝ)
    (hY : m ((c : Thread nD τ).loc main_arg0) = lift .f32 Y) (hW : m ((c : Thread nD τ).loc main_arg2) = lift .f32 W)
    (h0 : m ((c : Thread nD τ).loc main_arg1) (ix1 (n0 := 32) 0) = ((t0 : ℝ) : EReal))
    (h1 : m ((c : Thread nD τ).loc main_arg1) (ix1 (n0 := 32) 1) = ((t1 : ℝ) : EReal)) :
    (dat1 m c).arrAt 2 cfg1.N = rowsAfter W ((t1 - t0) / 2) Y := by
  have hh : halfStep m c (ix2 (n0 := 1) (n1 := 1) 0 0) = (((t1 - t0) / 2 : ℝ) : EReal) := by
    rw [halfStep_eq, h0, h1]
    refine (congrArg ((((t1 : ℝ) : EReal) - ((t0 : ℝ) : EReal)) * ·) Const.half).trans ?_
    show (((t1 : ℝ) : EReal) - ((t0 : ℝ) : EReal)) * ((1 / 2 : ℝ) : EReal) = _
    rw [← EReal.coe_sub, ← EReal.coe_mul, mul_one_div]
  rw [out_eq, mapIn_eq, matrixIn_eq, rowsIn_eq, hW, hY, map_lift _ _ hh]
  funext j
  unfold trajectory
  rw [carried_lift]
  rfl

end Cert.KernelIdeal.Run

end
-- ==== Proof.RefTrip.lean ====
module

public import proofs.«01_k».proof.Proof.Gen.ReferenceIdeal.Run
public import proofs.«01_k».proof.Proof.Consts
public import proofs.«01_k».proof.Proof.Matrices
public import proofs.«01_k».proof.Proof.Algebra

/-! One trip of the reference's loop over real carried buffers: two Runge–Kutta steps. -/

@[expose] public section

set_option maxRecDepth 16384

noncomputable section

namespace Cert.ReferenceIdeal.Trip

open Cert.ReferenceIdeal Cert.ReferenceIdeal.Gen Cert.ReferenceIdeal.Value
open Idealize.ShloMosaic
open Idealize.ShloMosaic.TcCoe
open Cert.RealMatrix Cert.Algebra

/-- A square real matrix of the problem's size. -/
abbrev Square : Type := Matrix (Fin 1024) (Fin 1024) ℝ

/-- A tableau entry: the quotient of two constants. -/
theorem quotient {s : Shape} {p q : BitVec 32} {a b : ℝ} (hp : Ideal.ofBits .f32 p = ((a : ℝ) : EReal))
    (hq : Ideal.ofBits .f32 q = ((b : ℝ) : EReal)) (hb : b ≠ 0) :
    Host.divf (constant s .f32 p : FVec Ideal s .f32) (constant s .f32 q) = num .f32 s (a / b) := by
  rw [constant_num hp, constant_num hq, divf_num _ _ hb]

theorem q1_5 : Host.divf (constant S_ .f32 0x3F800000#32 : FVec Ideal S_ .f32) (constant S_ .f32 0x40A00000#32) = num .f32 S_ (1 / 5) :=
  quotient Const.n1 Const.n5 (by norm_num)
theorem q3_40 : Host.divf (constant S_ .f32 0x40400000#32 : FVec Ideal S_ .f32) (constant S_ .f32 0x42200000#32) = num .f32 S_ (3 / 40) :=
  quotient Const.n3 Const.n40 (by norm_num)
theorem q9_40 : Host.divf (constant S_ .f32 0x41100000#32 : FVec Ideal S_ .f32) (constant S_ .f32 0x42200000#32) = num .f32 S_ (9 / 40) :=
  quotient Const.n9 Const.n40 (by norm_num)
theorem q44_45 : Host.divf (constant S_ .f32 0x42300000#32 : FVec Ideal S_ .f32) (constant S_ .f32 0x42340000#32) = num .f32 S_ (44 / 45) :=
  quotient Const.n44 Const.n45 (by norm_num)
theorem q56_15 : Host.divf (constant S_ .f32 0x42600000#32 : FVec Ideal S_ .f32) (constant S_ .f32 0x41700000#32) = num .f32 S_ (56 / 15) :=
  quotient Const.n56 Const.n15 (by norm_num)
theorem q32_9 : Host.divf (constant S_ .f32 0x42000000#32 : FVec Ideal S_ .f32) (constant S_ .f32 0x41100000#32) = num .f32 S_ (32 / 9) :=
  quotient Const.n32 Const.n9 (by norm_num)
theorem q19372_6561 : Host.divf (constant S_ .f32 0x46975800#32 : FVec Ideal S_ .f32) (constant S_ .f32 0x45CD0800#32) = num .f32 S_ (19372 / 6561) :=
  quotient Const.n19372 Const.n6561 (by norm_num)
theorem q25360_2187 : Host.divf (constant S_ .f32 0x46C62000#32 : FVec Ideal S_ .f32) (constant S_ .f32 0x4508B000#32) = num .f32 S_ (25360 / 2187) :=
  quotient Const.n25360 Const.n2187 (by norm_num)
theorem q64448_6561 : Host.divf (constant S_ .f32 0x477BC000#32 : FVec Ideal S_ .f32) (constant S_ .f32 0x45CD0800#32) = num .f32 S_ (64448 / 6561) :=
  quotient Const.n64448 Const.n6561 (by norm_num)
theorem q212_729 : Host.divf (constant S_ .f32 0x43540000#32 : FVec Ideal S_ .f32) (constant S_ .f32 0x44364000#32) = num .f32 S_ (212 / 729) :=
  quotient Const.n212 Const.n729 (by norm_num)
theorem q9017_3168 : Host.divf (constant S_ .f32 0x460CE400#32 : FVec Ideal S_ .f32) (constant S_ .f32 0x45460000#32) = num .f32 S_ (9017 / 3168) :=
  quotient Const.n9017 Const.n3168 (by norm_num)
theorem q355_33 : Host.divf (constant S_ .f32 0x43B18000#32 : FVec Ideal S_ .f32) (constant S_ .f32 0x42040000#32) = num .f32 S_ (355 / 33) :=
  quotient Const.n355 Const.n33 (by norm_num)
theorem q46732_5247 : Host.divf (constant S_ .f32 0x47368C00#32 : FVec Ideal S_ .f32) (constant S_ .f32 0x45A3F800#32) = num .f32 S_ (46732 / 5247) :=
  quotient Const.n46732 Const.n5247 (by norm_num)
theorem q49_176 : Host.divf (constant S_ .f32 0x42440000#32 : FVec Ideal S_ .f32) (constant S_ .f32 0x43300000#32) = num .f32 S_ (49 / 176) :=
  quotient Const.n49 Const.n176 (by norm_num)
theorem q5103_18656 : Host.divf (constant S_ .f32 0x459F7800#32 : FVec Ideal S_ .f32) (constant S_ .f32 0x4691C000#32) = num .f32 S_ (5103 / 18656) :=
  quotient Const.n5103 Const.n18656 (by norm_num)
theorem q35_384 : Host.divf (constant S_ .f32 0x420C0000#32 : FVec Ideal S_ .f32) (constant S_ .f32 0x43C00000#32) = num .f32 S_ (35 / 384) :=
  quotient Const.n35 Const.n384 (by norm_num)
theorem q500_1113 : Host.divf (constant S_ .f32 0x43FA0000#32 : FVec Ideal S_ .f32) (constant S_ .f32 0x448B2000#32) = num .f32 S_ (500 / 1113) :=
  quotient Const.n500 Const.n1113 (by norm_num)
theorem q125_192 : Host.divf (constant S_ .f32 0x42FA0000#32 : FVec Ideal S_ .f32) (constant S_ .f32 0x43400000#32) = num .f32 S_ (125 / 192) :=
  quotient Const.n125 Const.n192 (by norm_num)
theorem q2187_6784 : Host.divf (constant S_ .f32 0x4508B000#32 : FVec Ideal S_ .f32) (constant S_ .f32 0x45D40000#32) = num .f32 S_ (2187 / 6784) :=
  quotient Const.n2187 Const.n6784 (by norm_num)
theorem q11_84 : Host.divf (constant S_ .f32 0x41300000#32 : FVec Ideal S_ .f32) (constant S_ .f32 0x42A80000#32) = num .f32 S_ (11 / 84) :=
  quotient Const.n11 Const.n84 (by norm_num)

/-- The product of two real matrices, as the program writes it. -/
theorem dot_eq (A B : Square) :
    Host.dotGeneral dot_S1024x1024_S1024x1024_S1024x1024_1_0_0_1_n_n none (lift .f32 A) (lift .f32 B) = lift .f32 (A * B) :=
  dotGeneral_lift A B

/-- Adding the broadcast zero bias changes nothing. -/
theorem add_bias (A : Square) :
    addf (lift .f32 A) (broadcastInDim S1024x1024 ![0, 1] bcast_S1x1024_S1024x1024_0_1
      (broadcastInDim S1x1024 ![1] bcast_S1024_S1x1024_1 (num .f32 S1024 0))) = lift .f32 A := by
  funext i
  exact (congrArg _ EReal.coe_zero).trans (add_zero (M := EReal) _)

/-! The trip's operations as functions: the right-hand side, and the point at which each stage takes it. -/

section Stages

variable (y w : FVec Ideal S1024x1024 .f32) (b : FVec Ideal S1024 .f32) (h : FVec Ideal S_ .f32)

/-- The right-hand side `y wᵀ + b`. -/
def field : FVec Ideal S1024x1024 .f32 :=
  addf (Host.dotGeneral dot_S1024x1024_S1024x1024_S1024x1024_1_0_0_1_n_n none y (transpose S1024x1024 [1, 0] w transposes_S1024x1024_S1024x1024_1_0))
    (broadcastInDim S1024x1024 ![0, 1] bcast_S1x1024_S1024x1024_0_1 (broadcastInDim S1x1024 ![1] bcast_S1024_S1x1024_1 b))

/-- The point of the second stage. -/
def point2 (s1 : FVec Ideal S1024x1024 .f32) : FVec Ideal S1024x1024 .f32 :=
  addf y (mulf (broadcastInDim S1024x1024 ![] bcast_S_S1024x1024 (mulf h (Host.divf (constant S_ .f32 0x3F800000#32) (constant S_ .f32 0x40A00000#32)))) s1)
/-- The point of the third stage. -/
def point3 (s1 s2 : FVec Ideal S1024x1024 .f32) : FVec Ideal S1024x1024 .f32 :=
  addf y (mulf (broadcastInDim S1024x1024 ![] bcast_S_S1024x1024 h) (addf (mulf (broadcastInDim S1024x1024 ![] bcast_S_S1024x1024 (Host.divf (constant S_ .f32 0x40400000#32) (constant S_ .f32 0x42200000#32))) s1) (mulf (broadcastInDim S1024x1024 ![] bcast_S_S1024x1024 (Host.divf (constant S_ .f32 0x41100000#32) (constant S_ .f32 0x42200000#32))) s2)))
/-- The point of the fourth stage. -/
def point4 (s1 s2 s3 : FVec Ideal S1024x1024 .f32) : FVec Ideal S1024x1024 .f32 :=
  addf y (mulf (broadcastInDim S1024x1024 ![] bcast_S_S1024x1024 h) (addf (subf (mulf (broadcastInDim S1024x1024 ![] bcast_S_S1024x1024 (Host.divf (constant S_ .f32 0x42300000#32) (constant S_ .f32 0x42340000#32))) s1) (mulf (broadcastInDim S1024x1024 ![] bcast_S_S1024x1024 (Host.divf (constant S_ .f32 0x42600000#32) (constant S_ .f32 0x41700000#32))) s2)) (mulf (broadcastInDim S1024x1024 ![] bcast_S_S1024x1024 (Host.divf (constant S_ .f32 0x42000000#32) (constant S_ .f32 0x41100000#32))) s3)))
/-- The point of the fifth stage. -/
def point5 (s1 s2 s3 s4 : FVec Ideal S1024x1024 .f32) : FVec Ideal S1024x1024 .f32 :=
  addf y (mulf (broadcastInDim S1024x1024 ![] bcast_S_S1024x1024 h) (subf (addf (subf (mulf (broadcastInDim S1024x1024 ![] bcast_S_S1024x1024 (Host.divf (constant S_ .f32 0x46975800#32) (constant S_ .f32 0x45CD0800#32))) s1) (mulf (broadcastInDim S1024x1024 ![] bcast_S_S1024x1024 (Host.divf (constant S_ .f32 0x46C62000#32) (constant S_ .f32 0x4508B000#32))) s2)) (mulf (broadcastInDim S1024x1024 ![] bcast_S_S1024x1024 (Host.divf (constant S_ .f32 0x477BC000#32) (constant S_ .f32 0x45CD0800#32))) s3)) (mulf (broadcastInDim S1024x1024 ![] bcast_S_S1024x1024 (Host.divf (constant S_ .f32 0x43540000#32) (constant S_ .f32 0x44364000#32))) s4)))
/-- The point of the sixth stage. -/
def point6 (s1 s2 s3 s4 s5 : FVec Ideal S1024x1024 .f32) : FVec Ideal S1024x1024 .f32 :=
  addf y (mulf (broadcastInDim S1024x1024 ![] bcast_S_S1024x1024 h) (subf (addf (addf (subf (mulf (broadcastInDim S1024x1024 ![] bcast_S_S1024x1024 (Host.divf (constant S_ .f32 0x460CE400#32) (constant S_ .f32 0x45460000#32))) s1) (mulf (broadcastInDim S1024x1024 ![] bcast_S_S1024x1024 (Host.divf (constant S_ .f32 0x43B18000#32) (constant S_ .f32 0x42040000#32))) s2)) (mulf (broadcastInDim S1024x1024 ![] bcast_S_S1024x1024 (Host.divf (constant S_ .f32 0x47368C00#32) (constant S_ .f32 0x45A3F800#32))) s3)) (mulf (broadcastInDim S1024x1024 ![] bcast_S_S1024x1024 (Host.divf (constant S_ .f32 0x42440000#32) (constant S_ .f32 0x43300000#32))) s4)) (mulf (broadcastInDim S1024x1024 ![] bcast_S_S1024x1024 (Host.divf (constant S_ .f32 0x459F7800#32) (constant S_ .f32 0x4691C000#32))) s5)))
/-- The rows after the step. -/
def after (s1 s3 s4 s5 s6 : FVec Ideal S1024x1024 .f32) : FVec Ideal S1024x1024 .f32 :=
  addf y (mulf (broadcastInDim S1024x1024 ![] bcast_S_S1024x1024 h) (addf (subf (addf (addf (mulf (broadcastInDim S1024x1024 ![] bcast_S_S1024x1024 (Host.divf (constant S_ .f32 0x420C0000#32) (constant S_ .f32 0x43C00000#32))) s1) (mulf (broadcastInDim S1024x1024 ![] bcast_S_S1024x1024 (Host.divf (constant S_ .f32 0x43FA0000#32) (constant S_ .f32 0x448B2000#32))) s3)) (mulf (broadcastInDim S1024x1024 ![] bcast_S_S1024x1024 (Host.divf (constant S_ .f32 0x42FA0000#32) (constant S_ .f32 0x43400000#32))) s4)) (mulf (broadcastInDim S1024x1024 ![] bcast_S_S1024x1024 (Host.divf (constant S_ .f32 0x4508B000#32) (constant S_ .f32 0x45D40000#32))) s5)) (mulf (broadcastInDim S1024x1024 ![] bcast_S_S1024x1024 (Host.divf (constant S_ .f32 0x41300000#32) (constant S_ .f32 0x42A80000#32))) s6)))

end Stages

/-! The same over real matrices. -/

section Real

variable (h : ℝ) (W Y : Square)

theorem field_lift : field (lift .f32 Y) (lift .f32 W) (num .f32 S1024 0) = lift .f32 (right W Y) := by
  unfold field
  refine (congrArg (addf · _) ((congrArg (Host.dotGeneral _ none _) (transpose_lift W _)).trans (dot_eq Y W.transpose))).trans ?_
  exact add_bias _

theorem point2_lift (S1 : Square) : point2 (lift .f32 Y) (num .f32 S_ h) (lift .f32 S1) = lift .f32 (Y + (h * (1 / 5)) • S1) := by
  unfold point2
  rw [q1_5, mulf_num, broadcastInDim_num, mulf_num_lift, addf_lift]

theorem point3_lift (S1 S2 : Square) : point3 (lift .f32 Y) (num .f32 S_ h) (lift .f32 S1) (lift .f32 S2)
    = lift .f32 (Y + h • ((3 / 40 : ℝ) • S1 + (9 / 40 : ℝ) • S2)) := by
  unfold point3
  rw [q3_40, q9_40]
  simp only [broadcastInDim_num, mulf_num_lift, addf_lift, subf_lift]

theorem point4_lift (S1 S2 S3 : Square) : point4 (lift .f32 Y) (num .f32 S_ h) (lift .f32 S1) (lift .f32 S2) (lift .f32 S3)
    = lift .f32 (Y + h • ((44 / 45 : ℝ) • S1 - (56 / 15 : ℝ) • S2 + (32 / 9 : ℝ) • S3)) := by
  unfold point4
  rw [q44_45, q56_15, q32_9]
  simp only [broadcastInDim_num, mulf_num_lift, addf_lift, subf_lift]

theorem point5_lift (S1 S2 S3 S4 : Square) : point5 (lift .f32 Y) (num .f32 S_ h) (lift .f32 S1) (lift .f32 S2) (lift .f32 S3) (lift .f32 S4)
    = lift .f32 (Y + h • ((19372 / 6561 : ℝ) • S1 - (25360 / 2187 : ℝ) • S2 + (64448 / 6561 : ℝ) • S3 - (212 / 729 : ℝ) • S4)) := by
  unfold point5
  rw [q19372_6561, q25360_2187, q64448_6561, q212_729]
  simp only [broadcastInDim_num, mulf_num_lift, addf_lift, subf_lift]

theorem point6_lift (S1 S2 S3 S4 S5 : Square) : point6 (lift .f32 Y) (num .f32 S_ h) (lift .f32 S1) (lift .f32 S2) (lift .f32 S3) (lift .f32 S4) (lift .f32 S5)
    = lift .f32 (Y + h • ((9017 / 3168 : ℝ) • S1 - (355 / 33 : ℝ) • S2 + (46732 / 5247 : ℝ) • S3 + (49 / 176 : ℝ) • S4 - (5103 / 18656 : ℝ) • S5)) := by
  unfold point6
  rw [q9017_3168, q355_33, q46732_5247, q49_176, q5103_18656]
  simp only [broadcastInDim_num, mulf_num_lift, addf_lift, subf_lift]

theorem after_lift (S1 S3 S4 S5 S6 : Square) : after (lift .f32 Y) (num .f32 S_ h) (lift .f32 S1) (lift .f32 S3) (lift .f32 S4) (lift .f32 S5) (lift .f32 S6)
    = lift .f32 (Y + h • ((35 / 384 : ℝ) • S1 + (500 / 1113 : ℝ) • S3 + (125 / 192 : ℝ) • S4 - (2187 / 6784 : ℝ) • S5 + (11 / 84 : ℝ) • S6)) := by
  unfold after
  rw [q35_384, q500_1113, q125_192, q2187_6784, q11_84]
  simp only [broadcastInDim_num, mulf_num_lift, addf_lift, subf_lift]

end Real

variable (V : Valuation τ sig (Elt Ideal)) (h : ℝ) (W Y : Square)

/-- The carried buffers hold real values: the rows `Y`, the matrix `W`, a zero bias, and the half step `h`. -/
structure Holds : Prop where
  rows : V (Proc.devRef .tc main_v4_4) = lift .f32 Y
  matrix : V (Proc.devRef .tc main_v4_1) = lift .f32 W
  bias : V (Proc.devRef .tc main_v4_2) = num .f32 S1024 0
  half : res_main_while0b_v8 V = num .f32 S_ h

variable {V h W Y} (H : Holds V h W Y)
include H

theorem v13 : res_main_while0b_v13 V = lift .f32 (k1 (right W) Y) := by
  rw [show res_main_while0b_v13 V = field (V (Proc.devRef .tc main_v4_4)) (V (Proc.devRef .tc main_v4_1)) (V (Proc.devRef .tc main_v4_2)) from rfl, H.rows, H.matrix, H.bias, field_lift]
  rfl
theorem v23 : res_main_while0b_v23 V = lift .f32 (k2 (right W) h Y) := by
  rw [show res_main_while0b_v23 V = field (point2 (V (Proc.devRef .tc main_v4_4)) (res_main_while0b_v8 V) (res_main_while0b_v13 V)) (V (Proc.devRef .tc main_v4_1)) (V (Proc.devRef .tc main_v4_2)) from rfl,
    H.rows, H.matrix, H.bias, H.half, v13 H, point2_lift, field_lift]
  rfl
theorem v38 : res_main_while0b_v38 V = lift .f32 (k3 (right W) h Y) := by
  rw [show res_main_while0b_v38 V = field (point3 (V (Proc.devRef .tc main_v4_4)) (res_main_while0b_v8 V) (res_main_while0b_v13 V) (res_main_while0b_v23 V)) (V (Proc.devRef .tc main_v4_1)) (V (Proc.devRef .tc main_v4_2)) from rfl,
    H.rows, H.matrix, H.bias, H.half, v13 H, v23 H, point3_lift, field_lift]
  rfl
theorem v57 : res_main_while0b_v57 V = lift .f32 (k4 (right W) h Y) := by
  rw [show res_main_while0b_v57 V = field (point4 (V (Proc.devRef .tc main_v4_4)) (res_main_while0b_v8 V) (res_main_while0b_v13 V) (res_main_while0b_v23 V) (res_main_while0b_v38 V)) (V (Proc.devRef .tc main_v4_1)) (V (Proc.devRef .tc main_v4_2)) from rfl,
    H.rows, H.matrix, H.bias, H.half, v13 H, v23 H, v38 H, point4_lift, field_lift]
  rfl
theorem v80 : res_main_while0b_v80 V = lift .f32 (k5 (right W) h Y) := by
  rw [show res_main_while0b_v80 V = field (point5 (V (Proc.devRef .tc main_v4_4)) (res_main_while0b_v8 V) (res_main_while0b_v13 V) (res_main_while0b_v23 V) (res_main_while0b_v38 V) (res_main_while0b_v57 V)) (V (Proc.devRef .tc main_v4_1)) (V (Proc.devRef .tc main_v4_2)) from rfl,
    H.rows, H.matrix, H.bias, H.half, v13 H, v23 H, v38 H, v57 H, point5_lift, field_lift]
  rfl
/-- The rows after the first step. -/
theorem v129 : res_main_while0b_v129 V = lift .f32 (step (right W) h Y) := by
  rw [show res_main_while0b_v129 V = after (V (Proc.devRef .tc main_v4_4)) (res_main_while0b_v8 V) (res_main_while0b_v13 V) (res_main_while0b_v38 V) (res_main_while0b_v57 V) (res_main_while0b_v80 V)
      (field (point6 (V (Proc.devRef .tc main_v4_4)) (res_main_while0b_v8 V) (res_main_while0b_v13 V) (res_main_while0b_v23 V) (res_main_while0b_v38 V) (res_main_while0b_v57 V) (res_main_while0b_v80 V)) (V (Proc.devRef .tc main_v4_1)) (V (Proc.devRef .tc main_v4_2))) from rfl,
    H.rows, H.matrix, H.bias, H.half, v13 H, v23 H, v38 H, v57 H, v80 H, point6_lift, field_lift, after_lift]
  rfl

theorem v134 : res_main_while0b_v134 V = lift .f32 (k1 (right W) (step (right W) h Y)) := by
  rw [show res_main_while0b_v134 V = field (res_main_while0b_v129 V) (V (Proc.devRef .tc main_v4_1)) (V (Proc.devRef .tc main_v4_2)) from rfl, v129 H, H.matrix, H.bias, field_lift]
  rfl
theorem v144 : res_main_while0b_v144 V = lift .f32 (k2 (right W) h (step (right W) h Y)) := by
  rw [show res_main_while0b_v144 V = field (point2 (res_main_while0b_v129 V) (res_main_while0b_v8 V) (res_main_while0b_v134 V)) (V (Proc.devRef .tc main_v4_1)) (V (Proc.devRef .tc main_v4_2)) from rfl,
    v129 H, H.matrix, H.bias, H.half, v134 H, point2_lift, field_lift]
  rfl
theorem v159 : res_main_while0b_v159 V = lift .f32 (k3 (right W) h (step (right W) h Y)) := by
  rw [show res_main_while0b_v159 V = field (point3 (res_main_while0b_v129 V) (res_main_while0b_v8 V) (res_main_while0b_v134 V) (res_main_while0b_v144 V)) (V (Proc.devRef .tc main_v4_1)) (V (Proc.devRef .tc main_v4_2)) from rfl,
    v129 H, H.matrix, H.bias, H.half, v134 H, v144 H, point3_lift, field_lift]
  rfl
theorem v178 : res_main_while0b_v178 V = lift .f32 (k4 (right W) h (step (right W) h Y)) := by
  rw [show res_main_while0b_v178 V = field (point4 (res_main_while0b_v129 V) (res_main_while0b_v8 V) (res_main_while0b_v134 V) (res_main_while0b_v144 V) (res_main_while0b_v159 V)) (V (Proc.devRef .tc main_v4_1)) (V (Proc.devRef .tc main_v4_2)) from rfl,
    v129 H, H.matrix, H.bias, H.half, v134 H, v144 H, v159 H, point4_lift, field_lift]
  rfl
theorem v201 : res_main_while0b_v201 V = lift .f32 (k5 (right W) h (step (right W) h Y)) := by
  rw [show res_main_while0b_v201 V = field (point5 (res_main_while0b_v129 V) (res_main_while0b_v8 V) (res_main_while0b_v134 V) (res_main_while0b_v144 V) (res_main_while0b_v159 V) (res_main_while0b_v178 V)) (V (Proc.devRef .tc main_v4_1)) (V (Proc.devRef .tc main_v4_2)) from rfl,
    v129 H, H.matrix, H.bias, H.half, v134 H, v144 H, v159 H, v178 H, point5_lift, field_lift]
  rfl
/-- The rows after both steps. -/
theorem v250 : res_main_while0b_v250 V = lift .f32 (step (right W) h (step (right W) h Y)) := by
  rw [show res_main_while0b_v250 V = after (res_main_while0b_v129 V) (res_main_while0b_v8 V) (res_main_while0b_v134 V) (res_main_while0b_v159 V) (res_main_while0b_v178 V) (res_main_while0b_v201 V)
      (field (point6 (res_main_while0b_v129 V) (res_main_while0b_v8 V) (res_main_while0b_v134 V) (res_main_while0b_v144 V) (res_main_while0b_v159 V) (res_main_while0b_v178 V) (res_main_while0b_v201 V)) (V (Proc.devRef .tc main_v4_1)) (V (Proc.devRef .tc main_v4_2))) from rfl,
    v129 H, H.matrix, H.bias, H.half, v134 H, v144 H, v159 H, v178 H, v201 H, point6_lift, field_lift, after_lift]
  rfl

end Cert.ReferenceIdeal.Trip

end
-- ==== Proof.RefValue.lean ====
module

public import proofs.«01_k».proof.Proof.RefTrip
public import Idealize.ShloMosaic.Lib.StableHlo.RunRead
public import Idealize.ShloMosaic.Lib.DynamicIndex
public import Idealize.ShloMosaic.Lib.ValueIdx

/-! The reference's result over real arguments: row block `t` holds the rows after `t` intervals. -/

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.StableHlo
open Idealize.ShloMosaic.TcCoe Idealize.ShloMosaic.Tactic
open Cert.RealMatrix Cert.Algebra

variable (m : (ℓ : Loc nD τ sig) → Buf (Elt Ideal) ℓ) (c : Dev nD)

/-! The carried buffers where the loop begins. -/

/-- The lengths of the intervals. -/
def intervals (t : FVec Ideal S32 .f32) : FVec Ideal S31 .f32 :=
  subf (extractStridedSlice S31 ![1] t slices_S32_S31_1) (extractStridedSlice S31 ![0] t slices_S32_S31_0)

theorem entry_intervals : entryContents preI m c (Proc.devRef .tc main_v4_0) = intervals (m ((c : Thread nD τ).loc main_arg1)) := by
  simp only [entryContents, afterL_cons, afterL_nil]
  after_reads_simp
  rfl
theorem entry_matrix : entryContents preI m c (Proc.devRef .tc main_v4_1) = m ((c : Thread nD τ).loc main_arg2) := by
  simp only [entryContents, afterL_cons, afterL_nil]
  after_reads_simp
  rfl
theorem entry_bias : entryContents preI m c (Proc.devRef .tc main_v4_2) = m ((c : Thread nD τ).loc main_arg3) := by
  simp only [entryContents, afterL_cons, afterL_nil]
  after_reads_simp
  rfl
theorem entry_rows : entryContents preI m c (Proc.devRef .tc main_v4_4) = m ((c : Thread nD τ).loc main_arg0) := by
  simp only [entryContents, afterL_cons, afterL_nil]
  after_reads_simp
  rfl

/-- The half step, when all the intervals have the length `d`. -/
theorem half_of_intervals (V : Valuation τ sig (Elt Ideal)) (d : ℝ) (hV : V (Proc.devRef .tc main_v4_0) = num .f32 S31 d) :
    res_main_while0b_v8 V = num .f32 S_ (d / 2) := by
  unfold res_main_while0b_v8
  rw [hV, constant_num Const.n2]
  exact divf_num d 2 two_ne_zero

/-- The rows of the result, written up to interval `k`. -/
def Filled (W : Square) (h : ℝ) (Y : Square) (k : ℕ) (x : S31x1024x1024.Idx → EReal) : Prop :=
  ∀ j : S31x1024x1024.Idx, (j 0).val < k → x j = ((flow W h Y ((j 0).val + 1) (j 1) (j 2) : ℝ) : EReal)

/-- What the buffers hold after `k` trips. -/
structure After (k : ℕ) (V : Valuation τ sig (Elt Ideal)) (d : ℝ) (W Y : Square) : Prop where
  intervals : V (Proc.devRef .tc main_v4_0) = num .f32 S31 d
  matrix : V (Proc.devRef .tc main_v4_1) = lift .f32 W
  bias : V (Proc.devRef .tc main_v4_2) = num .f32 S1024 0
  counter : V (Proc.devRef .tc main_v4_3) = constantI S_ 32 (BitVec.ofNat 32 k)
  rows : V (Proc.devRef .tc main_v4_4) = lift .f32 (flow W (d / 2) Y k)
  filled : Filled W (d / 2) Y k (V (Proc.devRef .tc main_v4_5))

/-- Writing block `k` fills one more. -/
theorem filled_succ {W : Square} {h : ℝ} {Y : Square} {k : ℕ} (hk : k < 31) {x : S31x1024x1024.Idx → EReal} (hx : Filled W h Y k x)
    (start : Fin 3 → Int) (h0 : start 0 = k) (h1 : start 1 = 0) (h2 : start 2 = 0) :
    Filled W h Y (k + 1) (Host.dynamicUpdateSlice x
      (broadcastInDim S1x1024x1024 ![1, 2] bcast_S1024x1024_S1x1024x1024_1_2 (lift .f32 (flow W h Y (k + 1))))
      start updateFits_S31x1024x1024_S1x1024x1024) := by
  intro j hj
  have c0 : Host.clampedStart S31x1024x1024 S1x1024x1024 rfl start 0 = k :=
    Host.clampedStart_of_le _ _ _ _ h0 (by change k + 1 ≤ 31; omega)
  have c1 : Host.clampedStart S31x1024x1024 S1x1024x1024 rfl start 1 = 0 :=
    Host.clampedStart_of_le _ _ _ _ h1 (by change 0 + 1024 ≤ 1024; omega)
  have c2 : Host.clampedStart S31x1024x1024 S1x1024x1024 rfl start 2 = 0 :=
    Host.clampedStart_of_le _ _ _ _ h2 (by change 0 + 1024 ≤ 1024; omega)
  have b1 : (j 1).val < 1024 := (j 1).isLt
  have b2 : (j 2).val < 1024 := (j 2).isLt
  rw [Host.dynamicUpdateSlice_apply]
  by_cases e : (j 0).val = k
  · have hin : ∀ a : Fin 3, Host.clampedStart S31x1024x1024 S1x1024x1024 rfl start a ≤ (j a).val
        ∧ (j a).val < Host.clampedStart S31x1024x1024 S1x1024x1024 rfl start a + S1x1024x1024.size (a.cast rfl) := by
      intro a
      match a with
      | 0 => rw [c0]; change k ≤ (j 0).val ∧ (j 0).val < k + 1; omega
      | 1 => rw [c1]; change 0 ≤ (j 1).val ∧ (j 1).val < 0 + 1024; omega
      | 2 => rw [c2]; change 0 ≤ (j 2).val ∧ (j 2).val < 0 + 1024; omega
    rw [dif_pos hin]
    refine (broadcastInDim_apply _ _ _ _ (ix2 (n0 := 1024) (n1 := 1024) (j 1) (j 2)) ?_).trans ?_
    · intro a
      match a with
      | 0 => change (j 1).val = (j 1).val - Host.clampedStart S31x1024x1024 S1x1024x1024 rfl start 1; rw [c1, Nat.sub_zero]
      | 1 => change (j 2).val = (j 2).val - Host.clampedStart S31x1024x1024 S1x1024x1024 rfl start 2; rw [c2, Nat.sub_zero]
    · rw [e]
      rfl
  · rw [dif_neg (fun hin => e (by
      have := hin 0
      rw [c0] at this
      change k ≤ (j 0).val ∧ (j 0).val < k + 1 at this
      omega))]
    exact hx j (by omega)

/-- One more trip. -/
theorem after_succ {k : ℕ} (hk : k < 31) {V : Valuation τ sig (Elt Ideal)} {d : ℝ} {W Y : Square} (H : After k V d W Y) :
    After (k + 1) (STEP V) d W Y := by
  have HH : Holds V (d / 2) W (flow W (d / 2) Y k) := ⟨H.rows, H.matrix, H.bias, half_of_intervals V d H.intervals⟩
  have hr : res_main_while0b_v250 V = lift .f32 (flow W (d / 2) Y (k + 1)) := v250 HH
  refine ⟨(STEP_main_v4_0 V).trans H.intervals, (STEP_main_v4_1 V).trans H.matrix, (STEP_main_v4_2 V).trans H.bias, ?_, (STEP_main_v4_4 V).trans hr, ?_⟩
  · rw [STEP_main_v4_3]
    unfold step_main_v4_3
    rw [H.counter]
    funext i
    exact (BitVec.ofNat_add k 1).symm
  · rw [STEP_main_v4_5]
    unfold step_main_v4_5
    rw [hr]
    refine filled_succ hk H.filled _ ?_ rfl rfl
    change ((V (Proc.devRef .tc main_v4_3)) (Shape.Idx.first h_S_)).toInt = _
    rw [H.counter]
    exact toInt_ofNat_of_lt (by omega)

/-- After `k` trips from the loop's entry. -/
theorem after_trips (d : ℝ) (W Y : Square) (hY : m ((c : Thread nD τ).loc main_arg0) = lift .f32 Y)
    (hd : intervals (m ((c : Thread nD τ).loc main_arg1)) = num .f32 S31 d)
    (hW : m ((c : Thread nD τ).loc main_arg2) = lift .f32 W) (hb : m ((c : Thread nD τ).loc main_arg3) = num .f32 S1024 0) :
    ∀ k ≤ 31, After k (STEP^[k] (entryContents preI m c)) d W Y
  | 0, _ => ⟨(entry_intervals m c).trans hd, (entry_matrix m c).trans hW, (entry_bias m c).trans hb, ctr_entry m c,
      (entry_rows m c).trans hY, fun _ h => absurd h (Nat.not_lt_zero _)⟩
  | k + 1, h => by
    rw [Function.iterate_succ_apply']
    exact after_succ (by omega) (after_trips d W Y hY hd hW hb k (by omega))

/-- The result of real arguments: the start and the rows after each interval. -/
theorem result_lift (d : ℝ) (W Y : Square) (hY : m ((c : Thread nD τ).loc main_arg0) = lift .f32 Y)
    (hd : intervals (m ((c : Thread nD τ).loc main_arg1)) = num .f32 S31 d)
    (hW : m ((c : Thread nD τ).loc main_arg2) = lift .f32 W) (hb : m ((c : Thread nD τ).loc main_arg3) = num .f32 S1024 0)
    (j : S32x1024x1024.Idx) :
    (out_main_v6 (STEP^[31] (entryContents preI m c)) : S32x1024x1024.Idx → EReal) j
      = ((flow W (d / 2) Y (j 0).val (j 1) (j 2) : ℝ) : EReal) := by
  have H := (after_trips m c d W Y hY hd hW hb 31 le_rfl).filled
  unfold out_main_v6
  have h0 : (j 0).val < 32 := (j 0).isLt
  by_cases e : (j 0).val = 0
  · refine (concatenate_pair_apply_left (t := S32x1024x1024) (s₁ := S1x1024x1024) (s₂ := S31x1024x1024) 0 _ _ _ j rfl (ix3 (n0 := 1) (n1 := 1024) (n2 := 1024) 0 (j 1) (j 2)) ?_).trans ?_
    · intro b
      match b with
      | 0 => exact e.symm
      | 1 => rfl
      | 2 => rfl
    · rw [iter_main_arg0, hY, e]
      rfl
  · refine (concatenate_pair_apply_right (t := S32x1024x1024) (s₁ := S1x1024x1024) (s₂ := S31x1024x1024) 0 _ _ _ j rfl rfl
      (ix3 (n0 := 31) (n1 := 1024) (n2 := 1024) ⟨(j 0).val - 1, by omega⟩ (j 1) (j 2)) ?_ ?_).trans ?_
    · intro b hb
      match b with
      | 0 => exact absurd rfl hb
      | 1 => rfl
      | 2 => rfl
    · exact Nat.sub_add_cancel (by omega)
    · refine (H _ (by change (j 0).val - 1 < 31; omega)).trans ?_
      change ((flow W (d / 2) Y ((j 0).val - 1 + 1) (j 1) (j 2) : ℝ) : EReal) = _
      rw [Nat.sub_add_cancel (by omega)]

end Cert.ReferenceIdeal.Trip

end
-- ==== Proof.Real.lean ====
module

public import proofs.«01_k».proof.Defs
public import proofs.«01_k».proof.Proof.Gen.Pre_uniform_and_unbiased
public import proofs.«01_k».proof.Proof.Matrices
public import Idealize.ShloMosaic.Lib.ReduceAll
public import Idealize.ShloMosaic.Lib.Affine
public import Idealize.ShloMosaic.Lib.ValueIdx

/-! What the precondition says of the arguments: the rows, the times and the matrix are real, the intervals between the
    times have the length of the first, and the bias is zero. -/

@[expose] public section

noncomputable section

namespace Cert.Real

open Cert.Pre_uniform_and_unbiased Cert.Pre_uniform_and_unbiased.Gen
open Idealize.ShloMosaic
open Cert.RealMatrix

/-- An entry that compares equal to another is equal to it. -/
theorem eq_of_oeq {s : Shape} (x y : FVec Ideal s .f32) (i : s.Idx) (h : cmpf .oeq x y i = 1#1) : x i = y i := by
  have h' : Ideal.cmp .oeq (x i) (y i) = 1#1 := h
  by_contra hne
  simp [Ideal.cmp, hne] at h'

/-- An entry whose difference with itself is zero is a real number. -/
theorem coe_of_sub_self {x : EReal} (h : x - x = 0) : x = ((x.toReal : ℝ) : EReal) := by
  refine (EReal.coe_toReal ?_ ?_).symm
  · rintro rfl
    simp at h
  · rintro rfl
    simp at h

/-- An array that is an array of zeros when taken from itself has real entries. -/
theorem entries_real {s u : Shape} (x : FVec Ideal s .f32) (dims : Fin u.rank → Fin s.rank) (hb : u.BroadcastsInDim s dims)
    (i : s.Idx) (h : cmpf .oeq (subf x x) (broadcastInDim s dims hb (constant u .f32 0x00000000#32)) i = 1#1) :
    x i = (((x i).toReal : ℝ) : EReal) :=
  coe_of_sub_self ((eq_of_oeq _ _ i h).trans Ideal.ofBits_zero_f32)

variable [Facts] (y : FVec Ideal S1024x1024 .f32) (t : FVec Ideal S32 .f32) (w : FVec Ideal S1024x1024 .f32) (b : FVec Ideal S1024 .f32)

/-- What the precondition says. -/
structure Says : Prop where
  rows : y = lift .f32 (Matrix.of fun i j => (y (ix2 (n0 := 1024) (n1 := 1024) i j)).toReal)
  times : ∀ i, t i = (((t i).toReal : ℝ) : EReal)
  matrix : w = lift .f32 (Matrix.of fun i j => (w (ix2 (n0 := 1024) (n1 := 1024) i j)).toReal)
  intervals : ∀ i, subf (extractStridedSlice S31 ![1] t Facts.slices_S32_S31_1) (extractStridedSlice S31 ![0] t Facts.slices_S32_S31_0) i
    = t (ix1 (n0 := 32) 1) - t (ix1 (n0 := 32) 0)
  bias : b = num .f32 S1024 0

instance : Subsingleton S_.Idx := ⟨fun a b => funext fun i => i.elim0⟩

/-- A matrix with real entries, from its real parts. -/
theorem lift_toReal (x : FVec Ideal S1024x1024 .f32) (h : ∀ i, x i = (((x i).toReal : ℝ) : EReal)) :
    x = lift .f32 (Matrix.of fun i j => (x (ix2 (n0 := 1024) (n1 := 1024) i j)).toReal) := by
  funext i
  refine (h i).trans ?_
  have e : i = ix2 (n0 := 1024) (n1 := 1024) (i 0) (i 1) := by
    funext a
    match a with
    | 0 => rfl
    | 1 => rfl
  exact congrArg (fun z => (((x z).toReal : ℝ) : EReal)) e

instance : Subsingleton S1.Idx :=
  ⟨fun a b => funext fun i => match i with | 0 => Subsingleton.elim (α := Fin 1) _ _⟩

/-- The array of one number, as a number. -/
theorem one_number {α : Type} (x : S1.Idx → α) (h : S1.ShapeCasts S_) (k : S_.Idx) : shapeCast S_ x h k = x (ix1 (n0 := 1) 0) :=
  congrArg x (Subsingleton.elim _ _)

/-- The precondition, read. -/
theorem of_pre (h : fn (F := Ideal) y t w b = fun _ => 1#1) : Says y t w b := by
  have h0 := congrFun h (Shape.Idx.first Facts.h_S_)
  unfold fn fn_part1 at h0
  obtain ⟨h1, hb⟩ := IntOp.andi_eq_one.mp h0
  obtain ⟨h2, hi⟩ := IntOp.andi_eq_one.mp h1
  obtain ⟨h3, hw⟩ := IntOp.andi_eq_one.mp h2
  obtain ⟨hy, ht⟩ := IntOp.andi_eq_one.mp h3
  refine ⟨lift_toReal y fun i => entries_real y _ _ i (Host.reduce_andi_all _ _ _ _ _ hy i),
    fun i => entries_real t _ _ i (Host.reduce_andi_all _ _ _ _ _ ht i),
    lift_toReal w fun i => entries_real w _ _ i (Host.reduce_andi_all _ _ _ _ _ hw i),
    fun i => (eq_of_oeq _ _ i (Host.reduce_andi_all _ _ _ _ _ hi i)).trans ?_,
    funext fun i => (eq_of_oeq _ _ i (Host.reduce_andi_all _ _ _ _ _ hb i)).trans Ideal.ofBits_zero_f32⟩
  change shapeCast S_ (extractStridedSlice S1 ![1] t Facts.slices_S32_S1_1) Facts.shapeCasts_S1_S_ _
    - shapeCast S_ (extractStridedSlice S1 ![0] t Facts.slices_S32_S1_0) Facts.shapeCasts_S1_S_ _ = _
  rw [one_number, one_number]
  refine congrArg₂ (α := EReal) (β := EReal) (· - ·) (congrArg t ?_) (congrArg t ?_)
  · funext a
    match a with
    | 0 => rfl
  · funext a
    match a with
    | 0 => rfl

end Cert.Real

end
-- ==== Proof.Equal.lean ====
module

public import proofs.«01_k».proof.Proof.KernelValue
public import proofs.«01_k».proof.Proof.RefValue
public import proofs.«01_k».proof.Proof.Real

/-! The equation: under the precondition, kernel and reference leave the same array. -/

@[expose] public section

noncomputable section

namespace Cert.Equal

open Idealize.ShloMosaic
open Cert.RealMatrix Cert.Algebra

/-- The times' differences, under the precondition: the first of them throughout. -/
theorem intervals_num (t : FVec Ideal Cert.ReferenceIdeal.S32 .f32) (ht : ∀ i, t i = (((t i).toReal : ℝ) : EReal))
    (hi : ∀ i, Cert.ReferenceIdeal.Trip.intervals t i = t (ix1 (n0 := 32) 1) - t (ix1 (n0 := 32) 0)) :
    Cert.ReferenceIdeal.Trip.intervals t
      = num .f32 Cert.ReferenceIdeal.S31 ((t (ix1 (n0 := 32) 1)).toReal - (t (ix1 (n0 := 32) 0)).toReal) := by
  funext i
  refine (hi i).trans ((congrArg₂ (α := EReal) (β := EReal) (· - ·) (ht _) (ht _)).trans ?_)
  exact (EReal.coe_sub _ _).symm

/-- From the same arguments, of which the precondition holds, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (pre : Cert.Pre_uniform_and_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.out_main_v6 (Cert.ReferenceIdeal.Value.STEP^[31] (StableHlo.entryContents Cert.ReferenceIdeal.Value.preI m' c))
      = (Cert.KernelIdeal.Run.dat1 m c).arrAt 2 Cert.KernelIdeal.cfg1.N := by
  have S := Cert.Real.of_pre _ _ _ _ pre
  refine (funext fun j => ?_ : _ = Cert.KernelIdeal.Run.rowsAfter _ _ _).trans
    (Cert.KernelIdeal.Run.out_lift m c _ _ _ _ S.rows S.matrix (S.times _) (S.times _)).symm
  exact Cert.ReferenceIdeal.Trip.result_lift m' c _ _ _ (e0.trans S.rows) ((congrArg _ e1).trans (intervals_num _ S.times S.intervals))
    (e2.trans S.matrix) (e3.trans S.bias) j

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_uniform_and_unbiased
public import proofs.«01_k».proof.Proof.Gen.ReferenceIdeal.Run
public import proofs.«01_k».proof.Proof.KernelRun
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ =>
  (θ_run _ _ _).mono (fun _ h => ⟨fun c => ⟨(h.1 c).1, (h.1 c).2.1, (h.1 c).2.2.1, (h.1 c).2.2.2.1⟩, h.2⟩) (Cert.Kernel.Run.run m g)

/-- The ideal kernel's frame. -/
theorem frame_ideal : Cert.quiescent_KernelIdeal := fun m g _ =>
  (θ_run _ _ _).mono (fun _ h => ⟨fun c => ⟨(h.1 c).1, (h.1 c).2.1, (h.1 c).2.2.1, (h.1 c).2.2.2.1⟩, h.2⟩) (Cert.KernelIdeal.Run.run m g)

/-- The reference's frame; it declares no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The four named constants stand for the words that the kernel has in their places. -/
theorem preserves : Cert.preserves_Kernel_KernelIdeal :=
  ⟨IdealRules.named_const.statement Cert.KernelIdeal.κ "g2" .f32 0x2EAAAAAB#32 ((1 / 12884901888 : ℝ) : EReal) rfl,
    IdealRules.named_const.statement Cert.KernelIdeal.κ "g3" .f32 0x2A2AAAAB#32 ((1 / 6597069766656 : ℝ) : EReal) rfl,
    IdealRules.named_const.statement Cert.KernelIdeal.κ "g4" .f32 0x25888889#32 ((1 / 4222124650659840 : ℝ) : EReal) rfl,
    IdealRules.named_const.statement Cert.KernelIdeal.κ "g5" .f32 0x20DA740E#32 ((1 / 2702159776422297600 : ℝ) : EReal) rfl⟩

/-- Kernel and reference leave the same result over the extended reals. -/
theorem algebraic : Cert.algebraic_KernelIdeal_ReferenceIdeal_pre_uniform_and_unbiased := fun m g m' g' pre args =>
  ⟨fun c => (Cert.KernelIdeal.Run.dat1 m c).arrAt 2 Cert.KernelIdeal.cfg1.N,
    (θ_run _ _ _).mono (fun _ h c => ⟨(h.1 c).2.2.2.2, (h.1 c).1, (h.1 c).2.1, (h.1 c).2.2.1, (h.1 c).2.2.2.1⟩) (Cert.KernelIdeal.Run.run m g),
    (θ_run _ _ _).mono (fun _ h c => ⟨(h c).1.trans (Equal.results_eq m m' c (pre c) (args c).1 (args c).2.1 (args c).2.2.1 (args c).2.2.2), (h c).2⟩)
      (Cert.ReferenceIdeal.Value.run m' g')⟩

theorem claim : Cert.Claim := ⟨Cert.Kernel.Gen.facts, Cert.KernelIdeal.Gen.facts, Cert.ReferenceIdeal.Gen.facts, Cert.Pre_uniform_and_unbiased.Gen.facts,
  frame_kernel, frame_ideal, fun m g _ => frame_ideal m g trivial, frame_reference, fun m g _ => frame_reference m g trivial, preserves, algebraic⟩

end Cert.Proof

end
